-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![64, 16, 8, 64]⟩ ⟨4, ![256, 16, 8, 64]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![64, 16, 8, 64]⟩ ⟨4, ![256, 16, 8, 64]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v11 : IVec S_ 1) (main_v15 : IVec S_ 1) (main_v16 : FVec F S64x16x8x64 .f32) (main_v17 : FVec F S64x16x8x64 .f32) : IVec S_ 1 :=
  let main_v18 : IVec S64x16x8x64 1 := cmpf .olt main_v16 main_v17
  let main_c_4 : IVec S_ 1 := constantI S_ 1 1#1
  let main_v19 : IVec S_ 1 := (fun x v => Host.reduce IntOp.andi x v reducesTo_S64x16x8x64_S_d0_1_2_3 h_S_) main_v18 main_c_4
  let main_v20 : IVec S_ 1 := andi main_v15 main_v19
  let main_v21 : IVec S_ 1 := andi main_v20 main_v11
  let main_c_5 : IVec S_ 32 := constantI S_ 32 0#32
  let main_v22 : IVec S8 32 := broadcastInDim S8 ![] bcast_S_S8 main_c_5
  let main_v23 : IVec S8 1 := cmpi .sgt main_arg4 main_v22
  let main_c_6 : IVec S_ 1 := constantI S_ 1 1#1
  let main_v24 : IVec S_ 1 := (fun x v => Host.reduce IntOp.andi x v reducesTo_S8_S_d0 h_S_) main_v23 main_c_6
  let main_v25 : IVec S_ 1 := andi main_v21 main_v24
  main_v25

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S8x64 32 := iotaInDim S8x64 32 1
  let main_v1 : IVec S8x1 32 := broadcastInDim S8x1 ![0] bcast_S8_S8x1_0 main_arg4
  let main_v2 : IVec S8x64 32 := broadcastInDim S8x64 ![0, 1] bcast_S8x1_S8x64_0_1 main_v1
  let main_v3 : IVec S8x64 1 := cmpi .slt main_v0 main_v2
  let main_v4 : IVec S8x64 1 := noti main_v3
  let main_c : IVec S_ 32 := constantI S_ 32 0#32
  let main_v5 : IVec S8x64 32 := broadcastInDim S8x64 ![] bcast_S_S8x64 main_c
  let main_v6 : IVec S8x64 1 := cmpi .sge main_arg3 main_v5
  let main_c_0 : IVec S_ 32 := constantI S_ 32 256#32
  let main_v7 : IVec S8x64 32 := broadcastInDim S8x64 ![] bcast_S_S8x64 main_c_0
  let main_v8 : IVec S8x64 1 := cmpi .slt main_arg3 main_v7
  let main_v9 : IVec S8x64 1 := andi main_v6 main_v8
  let main_v10 : IVec S8x64 1 := ori main_v4 main_v9
  let main_c_1 : IVec S_ 1 := constantI S_ 1 1#1
  let main_v11 : IVec S_ 1 := (fun x v => Host.reduce IntOp.andi x v reducesTo_S8x64_S_d0_1 h_S_) main_v10 main_c_1
  let main_v12 : FVec F S8x1x8x64 .f32 := Host.absf main_arg0
  let main_cst : FVec F S_ .f32 := constant S_ .f32 0x7F800000#32
  let main_v13 : FVec F S8x1x8x64 .f32 := broadcastInDim S8x1x8x64 ![] bcast_S_S8x1x8x64 main_cst
  let main_v14 : IVec S8x1x8x64 1 := cmpf .olt main_v12 main_v13
  let main_c_2 : IVec S_ 1 := constantI S_ 1 1#1
  let main_v15 : IVec S_ 1 := (fun x v => Host.reduce IntOp.andi x v reducesTo_S8x1x8x64_S_d0_1_2_3 h_S_) main_v14 main_c_2
  let main_v16 : FVec F S64x16x8x64 .f32 := Host.absf main_arg1
  let main_cst_3 : FVec F S_ .f32 := constant S_ .f32 0x7F800000#32
  let main_v17 : FVec F S64x16x8x64 .f32 := broadcastInDim S64x16x8x64 ![] bcast_S_S64x16x8x64 main_cst_3
  fn_part1 (F := F) main_arg4 main_v11 main_v15 main_v16 main_v17
-- ==== Pre_well_posed_ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S256x16x8x64 : S_.BroadcastsInDim S256x16x8x64 (![] : Fin 0 → Fin S256x16x8x64.rank)
  reducesTo_S256x16x8x64_S_d0_1_2_3 : S256x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v11 : IVec S_ 1) (main_v15 : IVec S_ 1) (main_v16 : FVec F S256x16x8x64 .f32) (main_v17 : FVec F S256x16x8x64 .f32) : IVec S_ 1 :=
  let main_v18 : IVec S256x16x8x64 1 := cmpf .olt main_v16 main_v17
  let main_c_4 : IVec S_ 1 := constantI S_ 1 1#1
  let main_v19 : IVec S_ 1 := (fun x v => Host.reduce IntOp.andi x v reducesTo_S256x16x8x64_S_d0_1_2_3 h_S_) main_v18 main_c_4
  let main_v20 : IVec S_ 1 := andi main_v15 main_v19
  let main_v21 : IVec S_ 1 := andi main_v20 main_v11
  let main_c_5 : IVec S_ 32 := constantI S_ 32 0#32
  let main_v22 : IVec S8 32 := broadcastInDim S8 ![] bcast_S_S8 main_c_5
  let main_v23 : IVec S8 1 := cmpi .sgt main_arg4 main_v22
  let main_c_6 : IVec S_ 1 := constantI S_ 1 1#1
  let main_v24 : IVec S_ 1 := (fun x v => Host.reduce IntOp.andi x v reducesTo_S8_S_d0 h_S_) main_v23 main_c_6
  let main_v25 : IVec S_ 1 := andi main_v21 main_v24
  main_v25

def fn {F : FTy → Type} [FloatOps F] (main_arg0 : FVec F S8x1x8x64 .f32) (main_arg1 : FVec F S256x16x8x64 .f32) (main_arg2 : FVec F S256x16x8x64 .f32) (main_arg3 : IVec S8x64 32) (main_arg4 : IVec S8 32) : IVec S_ 1 :=
  let main_v0 : IVec S8x64 32 := iotaInDim S8x64 32 1
  let main_v1 : IVec S8x1 32 := broadcastInDim S8x1 ![0] bcast_S8_S8x1_0 main_arg4
  let main_v2 : IVec S8x64 32 := broadcastInDim S8x64 ![0, 1] bcast_S8x1_S8x64_0_1 main_v1
  let main_v3 : IVec S8x64 1 := cmpi .slt main_v0 main_v2
  let main_v4 : IVec S8x64 1 := noti main_v3
  let main_c : IVec S_ 32 := constantI S_ 32 0#32
  let main_v5 : IVec S8x64 32 := broadcastInDim S8x64 ![] bcast_S_S8x64 main_c
  let main_v6 : IVec S8x64 1 := cmpi .sge main_arg3 main_v5
  let main_c_0 : IVec S_ 32 := constantI S_ 32 256#32
  let main_v7 : IVec S8x64 32 := broadcastInDim S8x64 ![] bcast_S_S8x64 main_c_0
  let main_v8 : IVec S8x64 1 := cmpi .slt main_arg3 main_v7
  let main_v9 : IVec S8x64 1 := andi main_v6 main_v8
  let main_v10 : IVec S8x64 1 := ori main_v4 main_v9
  let main_c_1 : IVec S_ 1 := constantI S_ 1 1#1
  let main_v11 : IVec S_ 1 := (fun x v => Host.reduce IntOp.andi x v reducesTo_S8x64_S_d0_1 h_S_) main_v10 main_c_1
  let main_v12 : FVec F S8x1x8x64 .f32 := Host.absf main_arg0
  let main_cst : FVec F S_ .f32 := constant S_ .f32 0x7F800000#32
  let main_v13 : FVec F S8x1x8x64 .f32 := broadcastInDim S8x1x8x64 ![] bcast_S_S8x1x8x64 main_cst
  let main_v14 : IVec S8x1x8x64 1 := cmpf .olt main_v12 main_v13
  let main_c_2 : IVec S_ 1 := constantI S_ 1 1#1
  let main_v15 : IVec S_ 1 := (fun x v => Host.reduce IntOp.andi x v reducesTo_S8x1x8x64_S_d0_1_2_3 h_S_) main_v14 main_c_2
  let main_v16 : FVec F S256x16x8x64 .f32 := Host.absf main_arg1
  let main_cst_3 : FVec F S_ .f32 := constant S_ .f32 0x7F800000#32
  let main_v17 : FVec F S256x16x8x64 .f32 := broadcastInDim S256x16x8x64 ![] bcast_S_S256x16x8x64 main_cst_3
  fn_part1 (F := F) main_arg4 main_v11 main_v15 main_v16 main_v17
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x8x64 : Shape := ⟨3, ![8, 8, 64]⟩
abbrev S8x1 : Shape := ⟨2, ![8, 1]⟩
abbrev S64x64 : Shape := ⟨2, ![64, 64]⟩
abbrev S4x64x66 : Shape := ⟨3, ![4, 64, 66]⟩
abbrev S4 : Shape := ⟨1, ![4]⟩
abbrev S_ : Shape := ⟨0, ![]⟩
abbrev S8x64x64 : Shape := ⟨3, ![8, 64, 64]⟩
abbrev S8x64x1 : Shape := ⟨3, ![8, 64, 1]⟩
abbrev S8x1x1 : Shape := ⟨3, ![8, 1, 1]⟩
abbrev S8x64x16 : Shape := ⟨3, ![8, 64, 16]⟩
abbrev S8x1024 : Shape := ⟨2, ![8, 1024]⟩
abbrev S1024x8x64 : Shape := ⟨3, ![1024, 8, 64]⟩
abbrev S8x1x64 : Shape := ⟨3, ![8, 1, 64]⟩
abbrev S1024x1x64 : Shape := ⟨3, ![1024, 1, 64]⟩
abbrev S1024x64 : Shape := ⟨2, ![1024, 64]⟩
abbrev S64x1 : Shape := ⟨2, ![64, 1]⟩
abbrev S1x64x64 : Shape := ⟨3, ![1, 64, 64]⟩
abbrev S1x64x1 : Shape := ⟨3, ![1, 64, 1]⟩
abbrev S1 : Shape := ⟨1, ![1]⟩
abbrev S1x64x66 : Shape := ⟨3, ![1, 64, 66]⟩
abbrev S64x66 : Shape := ⟨2, ![64, 66]⟩
abbrev S4x64x64 : Shape := ⟨3, ![4, 64, 64]⟩
abbrev S4x64x1 : Shape := ⟨3, ![4, 64, 1]⟩

abbrev nBuf : Space → Nat
  | .hbm => 11
  | .vmem => 7
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x8x64, .f32⟩
  | .hbm, ⟨6, _⟩ => ⟨S8x1, .i32⟩
  | .hbm, ⟨7, _⟩ => ⟨S64x64, .f32⟩
  | .hbm, ⟨8, _⟩ => ⟨S8x8x64, .f32⟩
  | .hbm, ⟨9, _⟩ => ⟨S8x8x64, .f32⟩
  | .hbm, ⟨10, _⟩ => ⟨S8x1x8x64, .f32⟩
  | .local _ .vmem, ⟨0, _⟩ => ⟨S8x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8x1, .i32⟩
  | .local _ .vmem, ⟨5, _⟩ => ⟨S64x64, .f32⟩
  | .local _ .vmem, ⟨6, _⟩ => ⟨S4x64x66, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_98 : BitVec 32 := 1#32
  let v248 : BitVec 32 := Scalar.addi v2 c1_i32_98
  let c4_i32_99 : BitVec 32 := 4#32
  let c0_i32_100 : BitVec 32 := 0#32
  let v249 : BitVec 1 := Scalar.cmpi .eq c4_i32_99 c0_i32_100
  let c1_i32_101 : BitVec 32 := 1#32
  let v250 : BitVec 32 := Scalar.select v249 c1_i32_101 c4_i32_99
  let v251 : BitVec 32 := Scalar.remsi v248 v250
  let c0_i32_103 : BitVec 32 := 0#32
  let v253 : BitVec 1 := Scalar.cmpi .slt v251 c0_i32_103
  let c0_i32_104 : BitVec 32 := 0#32
  let v254 : BitVec 1 := Scalar.cmpi .slt v250 c0_i32_104
  let v255 : BitVec 1 := Scalar.xori v253 v254
  let c0_i32_102 : BitVec 32 := 0#32
  let v252 : BitVec 1 := Scalar.cmpi .ne v251 c0_i32_102
  let v256 : BitVec 1 := Scalar.andi v255 v252
  let v257 : BitVec 32 := Scalar.addi v251 v250
  let v258 : BitVec 32 := Scalar.select v256 v257 v251
  let c1_i32_109 : BitVec 32 := 1#32
  let v259 : BitVec 32 := Scalar.muli v258 c1_i32_109
  let v260 : BitVec 32 := Scalar.addi c0_i32_110 v259
  v260.toNat
def k0_dev5 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_115 : BitVec 32 := 2#32
  let v269 : BitVec 32 := Scalar.addi v2 c2_i32_115
  let c4_i32_116 : BitVec 32 := 4#32
  let c0_i32_117 : BitVec 32 := 0#32
  let v270 : BitVec 1 := Scalar.cmpi .eq c4_i32_116 c0_i32_117
  let c1_i32_118 : BitVec 32 := 1#32
  let v271 : BitVec 32 := Scalar.select v270 c1_i32_118 c4_i32_116
  let v272 : BitVec 32 := Scalar.remsi v269 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let c1_i32_126 : BitVec 32 := 1#32
  let v280 : BitVec 32 := Scalar.muli v279 c1_i32_126
  let v281 : BitVec 32 := Scalar.addi c0_i32_127 v280
  v281.toNat
def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_132 : BitVec 32 := 3#32
  let v290 : BitVec 32 := Scalar.addi v2 c3_i32_132
  let c4_i32_133 : BitVec 32 := 4#32
  let c0_i32_134 : BitVec 32 := 0#32
  let v291 : BitVec 1 := Scalar.cmpi .eq c4_i32_133 c0_i32_134
  let c1_i32_135 : BitVec 32 := 1#32
  let v292 : BitVec 32 := Scalar.select v291 c1_i32_135 c4_i32_133
  let v293 : BitVec 32 := Scalar.remsi v290 v292
  let c0_i32_137 : BitVec 32 := 0#32
  let v295 : BitVec 1 := Scalar.cmpi .slt v293 c0_i32_137
  let c0_i32_138 : BitVec 32 := 0#32
  let v296 : BitVec 1 := Scalar.cmpi .slt v292 c0_i32_138
  let v297 : BitVec 1 := Scalar.xori v295 v296
  let c0_i32_136 : BitVec 32 := 0#32
  let v294 : BitVec 1 := Scalar.cmpi .ne v293 c0_i32_136
  let v298 : BitVec 1 := Scalar.andi v297 v294
  let v299 : BitVec 32 := Scalar.addi v293 v292
  let v300 : BitVec 32 := Scalar.select v298 v299 v293
  let c1_i32_143 : BitVec 32 := 1#32
  let v301 : BitVec 32 := Scalar.muli v300 c1_i32_143
  let v302 : BitVec 32 := Scalar.addi c0_i32_144 v301
  v302.toNat
abbrev stage0_0 : Fin 1 → Memref sig .tc .vmem S8x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S8x64x16 : Shape := ⟨3, ![8, 64, 16]⟩
abbrev S8x1x1 : Shape := ⟨3, ![8, 1, 1]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S256x16x8x64, .f32⟩
  | .hbm, ⟨2, _⟩ => ⟨S256x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S8x1024x8x64, .f32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x16x8x64, .f32⟩
  | .hbm, ⟨24, _⟩ => ⟨S8x1024x8x64, .f32⟩
  | .hbm, ⟨25, _⟩ => ⟨S8x8x1x1024, .f32⟩
  | .hbm, ⟨26, _⟩ => ⟨S_, .f32⟩
  | .hbm, ⟨27, _⟩ => ⟨S8x8x1x1024, .f32⟩
  | .hbm, ⟨28, _⟩ => ⟨S8x8x1x1024, .f32⟩
  | .hbm, ⟨29, _⟩ => ⟨S8x64x16, .i32⟩
  | .hbm, ⟨30, _⟩ => ⟨S8x1x1, .i32⟩
  | .hbm, ⟨31, _⟩ => ⟨S8x64x16, .i32⟩
  | .hbm, ⟨32, _⟩ => ⟨S8x64x16, .i1⟩
  | .hbm, ⟨33, _⟩ => ⟨S8x1x1x1024, .i1⟩
  | .hbm, ⟨34, _⟩ => ⟨S_, .f32⟩
  | .hbm, ⟨35, _⟩ => ⟨S_, .f32⟩
  | .hbm, ⟨36, _⟩ => ⟨S8x8x1x1024, .i1⟩
  | .hbm, ⟨37, _⟩ => ⟨S8x8x1x1024, .f32⟩
  | .hbm, ⟨38, _⟩ => ⟨S8x8x1x1024, .f32⟩
  | .hbm, ⟨39, _⟩ => ⟨S_, .f32⟩
  | .hbm, ⟨40, _⟩ => ⟨S8x8x1, .f32⟩
  | .hbm, ⟨41, _⟩ => ⟨S8x8x1x1, .f32⟩
  | .hbm, ⟨42, _⟩ => ⟨S8x8x1x1024, .f32⟩
  | .hbm, ⟨43, _⟩ => ⟨S8x8x1x1024, .f32⟩
  | .hbm, ⟨44, _⟩ => ⟨S8x8x1x1024, .f32⟩
  | .hbm, ⟨45, _⟩ => ⟨S_, .f32⟩
  | .hbm, ⟨46, _⟩ => ⟨S8x8x1, .f32⟩
  | .hbm, ⟨47, _⟩ => ⟨S8x8x1x1, .f32⟩
  | .hbm, ⟨48, _⟩ => ⟨S8x8x1x1024, .f32⟩
  | .hbm, ⟨49, _⟩ => ⟨S8x8x1x1024, .f32⟩
  | .hbm, ⟨50, _⟩ => ⟨S8x8x64x1, .f32⟩
  | .hbm, ⟨51, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Slots.lean ====
/- The landing buffer as four slots: where a slot's element lies, which elements a slot has, what a copy of slot 0 of
   one device leaves in a slot of another, and what the three stores of a packed block leave in slot 0. -/
module

public import proofs.«01_k».proof.Proof.Gen.KernelIdeal.Frame
public import proofs.«01_k».proof.Proof.Gen.KernelIdeal.Skeleton
public import Idealize.ShloMosaic.Lib.ValueLayout
import Idealize.ShloMosaic.Lib.Pipeline.Value

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type}

/-- The landing buffer, whole. -/
abbrev commM : Memref sig .tc .vmem S4x64x66 .f32 := Memref.whole cc0_scratch0

theorem slot_inb : ∀ s : Fin 4, ∀ a, (![s.val, 0, 0] : Fin 3 → Nat) a + S1x64x66.size a ≤ S4x64x66.size a := by decide

/-- Slot `s` of the landing buffer, as the kernel names it. -/
abbrev slotM (s : Fin 4) : Memref sig .tc .vmem S64x66 .f32 :=
  (commM.slice (Rect.unit (s := S4x64x66) ![s.val, 0, 0] S1x64x66.size (slot_inb s)) (fun _ => rfl)).squeeze S64x66 squeezes_S1x64x66_S64x66

theorem slot_emb (s : Fin 4) (r : Fin 64) (k : Fin 66) : (slotM s).view.emb (ix2 r k) = (ix3 s r k : S4x64x66.Idx) := by
  show (Rect.unit (s := S4x64x66) ![s.val, 0, 0] S1x64x66.size (slot_inb s)).emb (Shape.reshapeEquiv _ (ix2 r k)) = _
  rw [reshapeEquiv_ix2_1ab]
  funext a
  apply Fin.ext
  rw [Rect.emb_apply]
  fin_cases a
  · show s.val + 1 * 0 = s.val; omega
  · show 0 + 1 * r.val = r.val; omega
  · show 0 + 1 * k.val = k.val; omega

theorem slot_set (s : Fin 4) : (slotM s).view.set = (Finset.univ.filter fun i : S4x64x66.Idx => (i 0).val = s.val) := by
  ext i
  rw [Finset.mem_filter]
  constructor
  · intro h
    obtain ⟨j, hj⟩ := View.exists_emb_of_mem_set _ h
    refine ⟨Finset.mem_univ _, ?_⟩
    rw [← hj, eq_ix2 j]
    exact congrArg (fun i : S4x64x66.Idx => (i 0).val) (slot_emb s (j 0) (j 1))
  · rintro ⟨-, h⟩
    have h0 : (i 0 : Fin 4) = s := Fin.ext h
    have e : (ix3 s (i 1) (i 2) : S4x64x66.Idx) = i := by
      rw [← h0]; exact (eq_ix3 (n0 := 4) (n1 := 64) (n2 := 66) i).symm
    have hm := View.emb_mem_set (slotM s).view (ix2 (i 1 : Fin 64) (i 2 : Fin 66))
    have h2 := slot_emb s (i 1) (i 2)
    exact e ▸ h2 ▸ hm

/-- A copy of slot 0 of one device's buffer into slot `s` of another's, at an element of slot `s`. -/
theorem copied (s : Fin 4) (fd fs : S4x64x66.Idx → Elt F .f32) (r : Fin 64) (k : Fin 66) :
    (slotM s).view.write (Elt F) fd ((slotM 0).view.read (Elt F) fs) Finset.univ (ix3 s r k : S4x64x66.Idx) = fs (ix3 0 r k) := by
  rw [← slot_emb s r k, View.write_emb_of_mem _ _ (Finset.mem_univ _), View.read_apply, slot_emb]
  rfl

abbrev rO : Rect S4x64x66 := Rect.unit (s := S4x64x66) ![0, 0, 0] S1x64x64.size inb_S4x64x66_S1x64x64_0_0_0
abbrev rM : Rect S4x64x66 := Rect.unit (s := S4x64x66) ![0, 0, 64] S1x64x1.size inb_S4x64x66_S1x64x1_0_0_64
abbrev rL : Rect S4x64x66 := Rect.unit (s := S4x64x66) ![0, 0, 65] S1x64x1.size inb_S4x64x66_S1x64x1_0_0_65

/-- The packed block one device sends: the weighted sums in the columns below 64, then the maxima, then the weight sums. -/
def packed (o : S1x64x64.Idx → Elt F .f32) (mx l : S1x64x1.Idx → Elt F .f32) (r : Fin 64) (k : Fin 66) : Elt F .f32 :=
  if h : k.val < 64 then o (ix3 0 r ⟨k.val, h⟩) else if k.val = 64 then mx (ix3 0 r 0) else l (ix3 0 r 0)

theorem emb_rO (r k : Fin 64) : (commM.access rO).emb (ix3 (0 : Fin 1) r k) = (ix3 0 r ⟨k.val, by omega⟩ : S4x64x66.Idx) := by
  funext a; apply Fin.ext
  show ((rO.emb (ix3 (0 : Fin 1) r k)) a).val = _
  rw [Rect.emb_apply]
  fin_cases a
  · rfl
  · show 0 + 1 * r.val = r.val; omega
  · show 0 + 1 * k.val = k.val; omega
theorem emb_rM (r : Fin 64) : (commM.access rM).emb (ix3 (0 : Fin 1) r (0 : Fin 1)) = (ix3 0 r 64 : S4x64x66.Idx) := by
  funext a; apply Fin.ext
  show ((rM.emb (ix3 (0 : Fin 1) r (0 : Fin 1))) a).val = _
  rw [Rect.emb_apply]
  fin_cases a
  · rfl
  · show 0 + 1 * r.val = r.val; omega
  · rfl
theorem emb_rL (r : Fin 64) : (commM.access rL).emb (ix3 (0 : Fin 1) r (0 : Fin 1)) = (ix3 0 r 65 : S4x64x66.Idx) := by
  funext a; apply Fin.ext
  show ((rL.emb (ix3 (0 : Fin 1) r (0 : Fin 1))) a).val = _
  rw [Rect.emb_apply]
  fin_cases a
  · rfl
  · show 0 + 1 * r.val = r.val; omega
  · rfl

/-- The second coordinates of the two one-column pieces. -/
theorem col_rM {i : S4x64x66.Idx} (h : i ∈ (commM.access rM).set) : (i 2).val = 64 := by
  obtain ⟨j, rfl⟩ := View.exists_emb_of_mem_set _ h
  show ((rM.emb j) 2).val = 64
  rw [Rect.emb_apply]
  have h2 : (j 2).val < 1 := (j 2).isLt
  show 64 + 1 * (j 2).val = 64
  omega
theorem col_rL {i : S4x64x66.Idx} (h : i ∈ (commM.access rL).set) : (i 2).val = 65 := by
  obtain ⟨j, rfl⟩ := View.exists_emb_of_mem_set _ h
  show ((rL.emb j) 2).val = 65
  rw [Rect.emb_apply]
  have h2 : (j 2).val < 1 := (j 2).isLt
  show 65 + 1 * (j 2).val = 65
  omega

/-- The three pieces lie in slot 0. -/
theorem sub_rO : (commM.access rO).set ⊆ (slotM 0).view.set := by
  intro i h
  obtain ⟨j, rfl⟩ := View.exists_emb_of_mem_set _ h
  rw [slot_set, Finset.mem_filter]
  refine ⟨Finset.mem_univ _, ?_⟩
  show ((rO.emb j) 0).val = 0
  rw [Rect.emb_apply]
  have h2 : (j 0).val < 1 := (j 0).isLt
  show 0 + 1 * (j 0).val = 0
  omega
theorem sub_rM : (commM.access rM).set ⊆ (slotM 0).view.set := by
  intro i h
  obtain ⟨j, rfl⟩ := View.exists_emb_of_mem_set _ h
  rw [slot_set, Finset.mem_filter]
  refine ⟨Finset.mem_univ _, ?_⟩
  show ((rM.emb j) 0).val = 0
  rw [Rect.emb_apply]
  have h2 : (j 0).val < 1 := (j 0).isLt
  show 0 + 1 * (j 0).val = 0
  omega
theorem sub_rL : (commM.access rL).set ⊆ (slotM 0).view.set := by
  intro i h
  obtain ⟨j, rfl⟩ := View.exists_emb_of_mem_set _ h
  rw [slot_set, Finset.mem_filter]
  refine ⟨Finset.mem_univ _, ?_⟩
  show ((rL.emb j) 0).val = 0
  rw [Rect.emb_apply]
  have h2 : (j 0).val < 1 := (j 0).isLt
  show 0 + 1 * (j 0).val = 0
  omega

/-- What the three stores leave at an element of slot 0: the packed block. -/
theorem stored (f : S4x64x66.Idx → Elt F .f32) (o : S1x64x64.Idx → Elt F .f32) (mx l : S1x64x1.Idx → Elt F .f32) (r : Fin 64) (k : Fin 66) :
    (commM.access rL).write (Elt F) ((commM.access rM).write (Elt F) ((commM.access rO).write (Elt F) f o Finset.univ) mx Finset.univ) l Finset.univ
      (ix3 0 r k : S4x64x66.Idx) = packed o mx l r k := by
  unfold packed
  by_cases h : k.val < 64
  · rw [dif_pos h]
    rw [View.write_of_not_mem _ _ _ (by
        rw [View.setOn_univ]; intro hm; have := col_rL hm
        have h2 : k.val = 65 := this
        omega),
      View.write_of_not_mem _ _ _ (by
        rw [View.setOn_univ]; intro hm; have := col_rM hm
        have h2 : k.val = 64 := this
        omega)]
    have e := emb_rO r ⟨k.val, h⟩
    rw [show (ix3 0 r k : S4x64x66.Idx) = (commM.access rO).emb (ix3 (0 : Fin 1) r ⟨k.val, h⟩) from e.symm,
      View.write_emb_of_mem _ _ (Finset.mem_univ _)]
    rfl
  · rw [dif_neg h]
    by_cases h4 : k.val = 64
    · rw [if_pos h4, View.write_of_not_mem _ _ _ (by
        rw [View.setOn_univ]; intro hm; have := col_rL hm
        have h2 : k.val = 65 := this
        omega)]
      obtain rfl : k = 64 := Fin.ext h4
      rw [← emb_rM r, View.write_emb_of_mem _ _ (Finset.mem_univ _)]
      rfl
    · rw [if_neg h4]
      obtain rfl : k = 65 := Fin.ext (by have := k.isLt; show k.val = 65; omega)
      rw [← emb_rL r, View.write_emb_of_mem _ _ (Finset.mem_univ _)]
      rfl

end Cert.KernelIdeal.Talk

end
-- ==== Proof.Body.lean ====
/- The kernel's body as one straight list of memory operations over named values: the block a device computes from its
   own five inputs, and what it stores in the end. -/
module

public import proofs.«01_k».proof.Proof.Slots

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F]

/-! ## The values -/

/-- What one device reads: the queries, its pages of keys and of values, the page table, the lengths. -/
structure Ins (F : FTy → Type) where
  q : Vec F S8x8x64 .f32
  K : Vec F S64x16x8x64 .f32
  V : Vec F S64x16x8x64 .f32
  bt : Vec F S8x64 .i32
  ln : Vec F S8x1 .i32

/-- The device's place along the axis of the mesh, as the kernel computes it. -/
abbrev w2 (d : Dev nD) : BitVec 32 := Scalar.remsi (Scalar.divsi (Dev.word d) 1#32) 4#32

section Vals
variable (d : Dev nD) (x : Ins F)
abbrev cnt : FVec F S8x1024 .f32 := k0_pay2 (w2 d) x.bt x.ln
abbrev msk : IVec S8x1024 1 := k0_pay3 (F := F) (w2 d) x.bt x.ln
abbrev Kc : FVec F S64x16x8x64 .f32 := k0_pay4 x.K
abbrev Kf : FVec F S1024x8x64 .f32 := k0_pay5 (Kc x)
abbrev Vf : FVec F S1024x8x64 .f32 := k0_pay6 x.V
abbrev qf : FVec F S8x8x64 .f32 := k0_pay7 x.q
abbrev qh4 : FVec F S8x64 .f32 := k0_pay29 (qf x)
abbrev Kh4 : FVec F S1024x1x64 .f32 := k0_pay30 (Kf x)
abbrev sc6 : FVec F S8x1024 .f32 := k0_pay41 (Kf x) (qf x)
abbrev cst6 : FVec F S8x1024 .f32 := k0_pay42 (F := F)

/-- The sums weighted by the values, head by head. -/
def blkO : FVec F S1x64x64 .f32 :=
  k0_pay50 (cnt d x) (msk d x) (Kf x) (Vf x) (qf x) (k0_pay12 (cnt d x) (msk d x) (Kc x) x.V x.q)
    (k0_pay18 (Vf x) (k0_pay15 (cnt d x) (msk d x) (Kc x) x.q)) (k0_pay23 (cnt d x) (msk d x) (Kf x) (Vf x) (qf x))
    (k0_pay28 (cnt d x) (msk d x) (Kf x) (Vf x) (qf x)) (k0_pay35 (cnt d x) (msk d x) (Vf x) (qh4 x) (Kh4 x))
    (k0_pay40 (cnt d x) (msk d x) (Kf x) (Vf x) (qf x)) (sc6 x) cst6
/-- The maxima of the scores. -/
def blkM : FVec F S1x64x1 .f32 :=
  k0_pay51 (msk d x) (Kf x) (qf x) (k0_pay9 (msk d x) (Kc x) x.q) (k0_pay14 (msk d x) (Kc x) x.q)
    (k0_pay20 (msk d x) (Kf x) (qf x)) (k0_pay25 (msk d x) (Kf x) (qf x)) (k0_pay32 (msk d x) (qh4 x) (Kh4 x))
    (k0_pay37 (msk d x) (Kf x) (qf x)) (sc6 x) cst6
/-- The sums of the weights. -/
def blkL : FVec F S1x64x1 .f32 :=
  k0_pay52 (k0_pay49 (cnt d x) (msk d x) (Kf x) (qf x) (k0_pay11 (cnt d x) (msk d x) (Kc x) x.q)
    (k0_pay17 (k0_pay16 (cnt d x) (msk d x) (Kc x) x.q)) (k0_pay22 (cnt d x) (msk d x) (Kf x) (qf x))
    (k0_pay27 (cnt d x) (msk d x) (Kf x) (qf x)) (k0_pay34 (cnt d x) (msk d x) (qh4 x) (Kh4 x))
    (k0_pay39 (cnt d x) (msk d x) (Kf x) (qf x)) (sc6 x) cst6)
end Vals

/-- The four blocks put together. -/
def merge (b : Vec F S4x64x66 .f32) : FVec F S64x64 .f32 := k0_pay1 (k0_pay53 b) (k0_pay54 b) (k0_pay55 b)

/-! ## The semaphores -/

abbrev barS : Sem sig := (SemArray.scalar (sig.barrier 0 rfl) : Sems sig S_).sem
theorem sem_inb : ∀ k : Fin 3, ∀ a, (![k.val + 1] : Fin 1 → Nat) a + S1.size a ≤ S4.size a := by decide
/-- The semaphore counting what a device has sent at distance `k + 1`, and the one counting what landed in slot `k + 1`. -/
abbrev sendS (k : Fin 3) : DmaSem sig := ((cc0_scratch1.slice (Rect.unit (s := S4) ![k.val + 1] S1.size (sem_inb k))).squeeze S_ squeezes_S1_S_).sem
abbrev recvS (k : Fin 3) : DmaSem sig := ((cc0_scratch2.slice (Rect.unit (s := S4) ![k.val + 1] S1.size (sem_inb k))).squeeze S_ squeezes_S1_S_).sem

abbrev qM : Memref sig .tc .vmem S8x8x64 .f32 := Memref.whole cc0_stg0_0
abbrev KM : Memref sig .tc .vmem S64x16x8x64 .f32 := Memref.whole cc0_stg1_0
abbrev VM : Memref sig .tc .vmem S64x16x8x64 .f32 := Memref.whole cc0_stg2_0
abbrev btM : Memref sig .tc .vmem S8x64 .i32 := Memref.whole cc0_stg3_0
abbrev lnM : Memref sig .tc .vmem S8x1 .i32 := Memref.whole cc0_stg4_0
abbrev outM : Memref sig .tc .vmem S64x64 .f32 := Memref.whole cc0_stg5_0

/-! ## The list of operations -/

abbrev EffP (F : FTy → Type) : Type 1 := Prog (TpuEff nD τ sig (Elt F) Λ₀ .tc) PUnit

def sendTo (n : Dev nD) (k : Fin 3) (P : EffP F) : EffP F :=
  .op (.enqueueDma (slotM 0) (.remote (Dev.tc n) (slotM k.succ) (.dma (sendS k))) (.dma (recvS k))
    ((View.wordExact_bits rfl).reshape _ _) ((View.wordExact_bits rfl).reshape _ _) ⟨⟨rfl, Or.inl rfl⟩, trivial⟩) fun _ => P
def waitRecv (k : Fin 3) (P : EffP F) : EffP F :=
  .op (.waitDma2 (recvS k) (slotM k.succ) (slotM k.succ) ((View.wordExact_bits rfl).reshape _ _) ((View.wordExact_bits rfl).reshape _ _)) fun _ => P
def waitSend (k : Fin 3) (P : EffP F) : EffP F :=
  .op (.waitDma2 (sendS k) (slotM k.succ) (slotM 0) ((View.wordExact_bits rfl).reshape _ _) ((View.wordExact_bits rfl).reshape _ _)) fun _ => P
def signalTo (n : Dev nD) (P : EffP F) : EffP F := .op (.semSignal (Dev.tc n) barS 1) fun _ => P

def tailP : EffP F :=
  .op (.load commM (Rect.unit (s := S4x64x66) ![0, 0, 0] S4x64x66.size inb_S4x64x66_S4x64x66_0_0_0).toLoadRect (View.loadsAt_vmem h_S4x64x66)) fun b =>
  .op (.load outM (Rect.unit (s := S64x64) ![0, 0] S64x64.size inb_S64x64_S64x64_0_0).toLoadRect (View.loadsAt_vmem h_S64x64)) fun _ =>
  .op (.store outM (Rect.unit (s := S64x64) ![0, 0] S64x64.size inb_S64x64_S64x64_0_0) (merge b) Finset.univ (View.stores_vmem_bits_univ h_S64x64 rfl) (.inl rfl)) fun _ =>
  .ret ⟨⟩

def talkP (n1 n2 n3 : Dev nD) : EffP F :=
  sendTo n1 0 <| sendTo n2 1 <| sendTo n3 2 <|
  waitRecv 0 <| waitRecv 1 <| waitRecv 2 <| waitSend 0 <| waitSend 1 <| waitSend 2 tailP

def packP (d : Dev nD) (x : Ins F) (P : EffP F) : EffP F :=
  .op (.load commM rO.toLoadRect (View.loadsAt_vmem h_S1x64x64)) fun _ =>
  .op (.store commM rO (blkO d x) Finset.univ (View.stores_vmem_bits_univ h_S1x64x64 rfl) (.inl rfl)) fun _ =>
  .op (.load commM rM.toLoadRect (View.loadsAt_vmem h_S1x64x1)) fun _ =>
  .op (.store commM rM (blkM d x) Finset.univ (View.stores_vmem_bits_univ h_S1x64x1 rfl) (.inl rfl)) fun _ =>
  .op (.load commM rL.toLoadRect (View.loadsAt_vmem h_S1x64x1)) fun _ =>
  .op (.store commM rL (blkL d x) Finset.univ (View.stores_vmem_bits_univ h_S1x64x1 rfl) (.inl rfl)) fun _ => P

def readP (P : Ins F → EffP F) : EffP F :=
  .op (.load btM (Rect.unit (s := S8x64) ![0, 0] S8x64.size inb_S8x64_S8x64_0_0).toLoadRect (View.loadsAt_vmem h_S8x64)) fun bt =>
  .op (.load lnM (Rect.unit (s := S8x1) ![0, 0] S8x1.size inb_S8x1_S8x1_0_0).toLoadRect (View.loadsAt_vmem h_S8x1)) fun ln =>
  .op (.load KM (Rect.unit (s := S64x16x8x64) ![0, 0, 0, 0] S64x16x8x64.size inb_S64x16x8x64_S64x16x8x64_0_0_0_0).toLoadRect (View.loadsAt_vmem h_S64x16x8x64)) fun K =>
  .op (.load VM (Rect.unit (s := S64x16x8x64) ![0, 0, 0, 0] S64x16x8x64.size inb_S64x16x8x64_S64x16x8x64_0_0_0_0).toLoadRect (View.loadsAt_vmem h_S64x16x8x64)) fun V =>
  .op (.load qM (Rect.unit (s := S8x8x64) ![0, 0, 0] S8x8x64.size inb_S8x8x64_S8x8x64_0_0_0).toLoadRect (View.loadsAt_vmem h_S8x8x64)) fun q =>
  P ⟨q, K, V, bt, ln⟩

/-- The body after it has read its device's number, the six targets as arguments. -/
def bodyP (d n1 n2 n3 n4 n5 n6 : Dev nD) : EffP F :=
  signalTo n1 <| signalTo n2 <| signalTo n3 <|
  .op (.semWait barS 3) fun _ => readP fun x => packP d x (talkP n4 n5 n6)

theorem body_eq (h0 : qM.IsWhole) (h1 : KM.IsWhole) (h2 : VM.IsWhole) (h3 : btM.IsWhole) (h4 : lnM.IsWhole) (h5 : outM.IsWhole)
    (h6 : commM.IsWhole) :
    cc0__body (F := F) qM h0 KM h1 VM h2 btM h3 lnM h4 outM h5 commM h6 cc0_scratch1 cc0_scratch2
      = .op .deviceId fun d => bodyP (F := F) d ⟨k0_dev1 d, k0_dev1_lt d⟩ ⟨k0_dev2 d, k0_dev2_lt d⟩ ⟨k0_dev3 d, k0_dev3_lt d⟩
          ⟨k0_dev4 d, k0_dev4_lt d⟩ ⟨k0_dev5 d, k0_dev5_lt d⟩ ⟨k0_dev6 d, k0_dev6_lt d⟩ := by
  rfl

end Cert.KernelIdeal.Talk
-- ==== Proof.Talk.lean ====
/- The exchange between the four devices: which duty each semaphore's round has, who pays it and with what, what a device
   owes at launch, and in which order the waits may be made. -/
module

public import proofs.«01_k».proof.Proof.Body
public import Idealize.ShloMosaic.Lib.Pipeline.Launch
public import Idealize.ShloMosaic.Lib.Pipeline.Kit
public import Idealize.ShloMosaic.Lib.Pipeline.RegionTalk
public import Idealize.ShloMosaic.Lib.Rounds.Family
public import Idealize.ShloMosaic.Lib.Tactic

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
/-- The device at distance `k + 1` after `c`. -/
def pr (k : Fin 3) (c : Dev nD) : Dev nD := ⟨(c.val + k.val + 1) % 4, Nat.mod_lt _ (by decide)⟩
set_option backward.proofsInPublic true in
/-- The device whose block lands in slot `s` of device `c`. -/
def frm (s : Fin 4) (c : Dev nD) : Dev nD := ⟨(c.val + 4 - s.val) % 4, Nat.mod_lt _ (by decide)⟩

theorem pr_rev (k : Fin 3) (c : Dev nD) : pr k.rev (pr k c) = c := by revert k c; decide
theorem rev_pr (k : Fin 3) (c : Dev nD) : pr k (pr k.rev c) = c := by revert k c; decide
theorem frm_zero (c : Dev nD) : frm 0 c = c := by revert c; decide
theorem frm_succ (k : Fin 3) (c : Dev nD) : frm k.succ (pr k c) = c := by revert k c; decide

theorem dev1_eq (c : Dev nD) : (⟨k0_dev1 c, k0_dev1_lt c⟩ : Dev nD) = pr 0 c := by revert c; decide
theorem dev2_eq (c : Dev nD) : (⟨k0_dev2 c, k0_dev2_lt c⟩ : Dev nD) = pr 1 c := by revert c; decide
theorem dev3_eq (c : Dev nD) : (⟨k0_dev3 c, k0_dev3_lt c⟩ : Dev nD) = pr 2 c := by revert c; decide
theorem dev4_eq (c : Dev nD) : (⟨k0_dev4 c, k0_dev4_lt c⟩ : Dev nD) = pr 0 c := by revert c; decide
theorem dev5_eq (c : Dev nD) : (⟨k0_dev5 c, k0_dev5_lt c⟩ : Dev nD) = pr 1 c := by revert c; decide
theorem dev6_eq (c : Dev nD) : (⟨k0_dev6 c, k0_dev6_lt c⟩ : Dev nD) = pr 2 c := by revert c; decide

/-! ## Cells, contents, points-tos -/

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

abbrev N : ℕ := (slotM 0).view.dmaCredit
theorem N_pos : 0 < N := View.dmaCredit_pos _ (by decide)

variable (X : Dev nD → Ins F)

/-- The whole landing buffer of device `c` at the end: in slot `s` the block of the device `s` places before. -/
def allOf (c : Dev nD) : S4x64x66.Idx → Elt F .f32 := fun i =>
  packed (blkO (frm (i 0) c) (X (frm (i 0) c))) (blkM (frm (i 0) c) (X (frm (i 0) c))) (blkL (frm (i 0) c) (X (frm (i 0) c))) (i 1) (i 2)

abbrev slotPts (c : Dev nD) (s : Fin 4) (q : PosShare TreeShare) (f : S4x64x66.Idx → Elt F .f32) : sProp 𝕄 :=
  (slotM s).view.loc (c : Thread nD τ) ↦[(slotM s).view.set]{q} f

/-- Slot 0 is read by three copies at once: the shares they read at. -/
def qk : Fin 3 → PosShare TreeShare := fun | 0 => fullShare.left | 1 => fullShare.right.left | 2 => fullShare.right.right

/-! ## The schedule -/

/-- What device `pr j p` hands device `p` by its signal: the slot `p` writes into, and that its counter is ready. -/
def barPay (p : Dev nD) (j : Fin 3) : sProp 𝕄 :=
  iprop((∃ f : S4x64x66.Idx → Elt F .f32, slotPts (pr j p) j.succ fullShare f) ∗ reached ER (recvCell (pr j p) j) 0)
def recvPay (c : Dev nD) (k : Fin 3) : sProp 𝕄 := slotPts c k.succ fullShare (allOf X c)
def sendPay (c : Dev nD) (k : Fin 3) : sProp 𝕄 := slotPts c 0 (qk k) (allOf X c)

set_option backward.proofsInPublic true in
/-- Which of the exchange's counters a DMA semaphore is: `(false, k)` a send counter, `(true, k)` a landing counter. -/
def kind (s : DmaSem sig) : Option (Bool × Fin 3) :=
  if h : 7 ≤ s.val ∧ s.val < 10 then some (false, ⟨s.val - 7, by omega⟩)
  else if h : 11 ≤ s.val then some (true, ⟨s.val - 11, by have := s.isLt; change s.val < 14 at this; omega⟩) else none

theorem kind_send (k : Fin 3) : kind (sendS k) = some (false, k) := by revert k; decide
theorem kind_recv (k : Fin 3) : kind (recvS k) = some (true, k) := by revert k; decide

def dutiesOf : SemLoc sig → Finset (Fin 3)
  | .reg _ => Finset.univ
  | .dma s => if (kind s).isSome then {0} else ∅
def payOf (c : Dev nD) : SemLoc sig → Fin 3 → sProp 𝕄
  | .reg _, j => barPay c j
  | .dma s, _ => match kind s with
    | some (false, k) => sendPay X c k
    | some (true, k) => recvPay X c k
    | none => iprop(emp)
def amountOf : SemLoc sig → ℕ
  | .reg _ => 1
  | .dma _ => N

def Rd : Rounds.Schedule (GSem nD τ sig) (Fin 3) 𝕄 where
  duties g r := if r = 0 ∧ g.1.2 = .tc then dutiesOf g.2 else ∅
  unitless _ := False
  amount g _ _ := amountOf g.2
  payload g _ d := payOf X g.1.1 g.2 d
  amount_pos g _ _ _ := by
    rcases g with ⟨_, _ | _⟩
    · exact Nat.one_pos
    · exact N_pos

instance Rd_payload_storable (g : GSem nD τ sig) (r : ℕ) (d : Fin 3) :
    BI.Storable (upEmb : UEmb _ 𝕄) ((Rd (F := F) X).payload g r d) := by
  show BI.Storable upEmb (payOf X g.1.1 g.2 d)
  rcases g with ⟨⟨c, _⟩, s | s⟩
  · show BI.Storable upEmb (barPay c d); unfold barPay; infer_instance
  · show BI.Storable upEmb (match kind s with
      | some (false, k) => sendPay X c k | some (true, k) => recvPay X c k | none => iprop(emp))
    unfold sendPay recvPay
    split <;> infer_instance

section Sched
variable (c : Dev nD) (k : Fin 3)

theorem duties_bar : (Rd (F := F) X).duties (barCell c) 0 = Finset.univ := by dsimp only [Rd]; exact if_pos ⟨rfl, rfl⟩
theorem duties_send : (Rd (F := F) X).duties (sendCell c k) 0 = {0} := by
  dsimp only [Rd]; rw [if_pos ⟨rfl, rfl⟩]; show (if (kind (sendS k)).isSome then _ else _) = _; rw [kind_send]; rfl
theorem duties_recv : (Rd (F := F) X).duties (recvCell c k) 0 = {0} := by
  dsimp only [Rd]; rw [if_pos ⟨rfl, rfl⟩]; show (if (kind (recvS k)).isSome then _ else _) = _; rw [kind_recv]; rfl
theorem duties_later (g : GSem nD τ sig) : ∀ r, 0 + 1 ≤ r → (Rd (F := F) X).duties g r = ∅ :=
  fun r hr => by dsimp only [Rd]; exact if_neg fun h => by omega

theorem amount_bar (d : Fin 3) : (Rd (F := F) X).amount (barCell c) 0 d = 1 := rfl
theorem amount_send (d : Fin 3) : (Rd (F := F) X).amount (sendCell c k) 0 d = N := rfl
theorem amount_recv (d : Fin 3) : (Rd (F := F) X).amount (recvCell c k) 0 d = N := rfl

theorem expect_bar : (Rd (F := F) X).expect (barCell c) 0 = 3 := by
  unfold Schedule.expect Schedule.amountOf
  rw [duties_bar, Finset.sum_congr rfl fun d _ => amount_bar X c d, Finset.sum_const, Finset.card_univ, Fintype.card_fin, smul_eq_mul]
theorem expect_send : (Rd (F := F) X).expect (sendCell c k) 0 = N := by
  unfold Schedule.expect Schedule.amountOf; rw [duties_send, Finset.sum_singleton, amount_send]
theorem expect_recv : (Rd (F := F) X).expect (recvCell c k) 0 = N := by
  unfold Schedule.expect Schedule.amountOf; rw [duties_recv, Finset.sum_singleton, amount_recv]

theorem payload_bar (j : Fin 3) : (Rd (F := F) X).payload (barCell c) 0 j = barPay c j := rfl
theorem payload_send (d : Fin 3) : (Rd (F := F) X).payload (sendCell c k) 0 d = sendPay X c k := by
  show (match kind (sendS k) with
      | some (false, k) => sendPay X c k | some (true, k) => recvPay X c k | none => iprop(emp)) = _
  rw [kind_send]
theorem payload_recv (d : Fin 3) : (Rd (F := F) X).payload (recvCell c k) 0 d = recvPay X c k := by
  show (match kind (recvS k) with
      | some (false, k) => sendPay X c k | some (true, k) => recvPay X c k | none => iprop(emp)) = _
  rw [kind_recv]

/-- Three of a kind. -/
def sep3 (Φ : Fin 3 → sProp 𝕄) : sProp 𝕄 := iprop(Φ 0 ∗ Φ 1 ∗ Φ 2)
omit [FloatOps F] in
theorem bigSep_fin3 (Φ : Fin 3 → sProp 𝕄) : bigSep Finset.univ Φ = sep3 Φ := by
  rw [bigSep_univ_eq_bigSepL [0, 1, 2] (by decide) (by decide), bigSepL_cons_cons, bigSepL_cons_cons, bigSepL_singleton]; rfl

theorem rest_bar : bigSep ((Rd (F := F) X).duties (barCell c) 0 \ ∅) (fun d => (Rd (F := F) X).payload (barCell c) 0 d) = sep3 (barPay c) := by
  rw [Finset.sdiff_empty, duties_bar, bigSep_fin3]; rfl
theorem rest_send : bigSep ((Rd (F := F) X).duties (sendCell c k) 0 \ ∅) (fun d => (Rd (F := F) X).payload (sendCell c k) 0 d) = sendPay X c k := by
  rw [Finset.sdiff_empty, duties_send, bigSep_singleton, payload_send]
theorem rest_recv : bigSep ((Rd (F := F) X).duties (recvCell c k) 0 \ ∅) (fun d => (Rd (F := F) X).payload (recvCell c k) 0 d) = recvPay X c k := by
  rw [Finset.sdiff_empty, duties_recv, bigSep_singleton, payload_recv]
end Sched

/-! ## What each device owes at launch; the levels -/

def oR (c : Dev nD) (k : Fin 3) : CellTallies nD τ sig Unit := tallyAt (recvCell (pr k c) k) () N
def oB (c : Dev nD) (k : Fin 3) : CellTallies nD τ sig Unit := tallyAt (barCell (pr k c)) () 1
/-- After the signals, with the copies still to be made. -/
def O₁ (c : Dev nD) : CellTallies nD τ sig Unit := 0 + oR c 2 + oR c 1 + oR c 0
def O₀ (c : Dev nD) : CellTallies nD τ sig Unit := O₁ c + oB c 2 + oB c 1 + oB c 0

def L (g : GSem nD τ sig) : Finset Unit := if g.1.2 = .tc then {()} else ∅
/-- The barrier's semaphore at 1, the landing counters at 2, everything else at 0. -/
def lvS : SemLoc sig → ℕ
  | .reg _ => 1
  | .dma s => if 11 ≤ s.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 3) : lvS (.dma (recvS k)) = 2 := by revert k; decide

theorem oR_pos {c : Dev nD} {k : Fin 3} {g : GSem nD τ sig} {u : Unit} (h : 0 < oR c k g u) : g = recvCell (pr k c) k := by
  unfold oR at h; rw [tallyAt_apply] at h
  by_contra hn
  rw [if_neg (fun h' => hn h'.1)] at h
  exact Nat.lt_irrefl 0 h
theorem oB_pos {c : Dev nD} {k : Fin 3} {g : GSem nD τ sig} {u : Unit} (h : 0 < oB c k g u) : g = barCell (pr k c) := by
  unfold oB at h; rw [tallyAt_apply] at h
  by_contra hn
  rw [if_neg (fun h' => hn h'.1)] at h
  exact Nat.lt_irrefl 0 h
theorem add_pos_or {A B : CellTallies nD τ sig Unit} {g : GSem nD τ sig} {u : Unit} (h : 0 < (A + B) g u) : 0 < A g u ∨ 0 < B g u := by
  rw [Pi.add_apply, Finsupp.add_apply] at h; omega
theorem O₁_pos {c : Dev nD} {g : GSem nD τ sig} {u : Unit} (h : 0 < O₁ c g u) : ∃ k, g = recvCell (pr k c) k := by
  unfold O₁ at h
  rcases add_pos_or h with h | h
  · rcases add_pos_or h with h | h
    · rcases add_pos_or h with h | h
      · exact absurd h (Nat.lt_irrefl 0)
      · exact ⟨_, oR_pos h⟩
    · exact ⟨_, oR_pos h⟩
  · exact ⟨_, oR_pos h⟩
theorem O₀_pos {c : Dev nD} {g : GSem nD τ sig} {u : Unit} (h : 0 < O₀ c g u) :
    (∃ k, g = recvCell (pr k c) k) ∨ ∃ k, g = barCell (pr k c) := by
  unfold O₀ at h
  rcases add_pos_or h with h | h
  · rcases add_pos_or h with h | h
    · rcases add_pos_or h with h | h
      · exact .inl (O₁_pos h)
      · exact .inr ⟨_, oB_pos h⟩
    · exact .inr ⟨_, oB_pos h⟩
  · exact .inr ⟨_, oB_pos h⟩

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; rw [L_tc]; exact Finset.mem_singleton_self _)
    (fun p hp => by rw [Finset.mem_singleton.mp hp]; exact le_refl 1)
    (fun g u hg => by
      obtain ⟨k, rfl⟩ := O₁_pos hg
      show 1 < lvS (.dma (recvS k)); rw [lv_recv]; decide)

/-! ## The protocol's ghost state -/

/-- The invariants device `c` opens: its own seven cells', the three barrier cells it signals, the three landing counters it pays. -/
def invs (K : GSem nD τ sig → ℕ) (c : Dev nD) : sProp 𝕄 :=
  iprop(cellInv ER (Rd X) (K (barCell c)) (barCell c)
    ∗ sep3 (fun k => cellInv ER (Rd X) (K (sendCell c k)) (sendCell c k))
    ∗ sep3 (fun k => cellInv ER (Rd X) (K (recvCell c k)) (recvCell c k))
    ∗ sep3 (fun k => cellInv ER (Rd X) (K (barCell (pr k c))) (barCell (pr k c)))
    ∗ sep3 (fun k => cellInv ER (Rd X) (K (recvCell (pr k c) k)) (recvCell (pr k c) k)))

instance invs_persistent (K : GSem nD τ sig → ℕ) (c : Dev nD) : BI.Persistent (invs X K c) := by unfold invs sep3; infer_instance

/-- The duty tokens device `c` pays with. -/
def toks (c : Dev nD) : sProp 𝕄 :=
  iprop(sep3 (fun k => dutyTok ER (barCell (pr k c)) 0 k.rev) ∗ sep3 (fun k => dutyTok ER (recvCell (pr k c) k) 0 0)
    ∗ sep3 (fun k => dutyTok ER (sendCell c k) 0 0))

/-- What device `c` carries from the launch to the kernel. -/
def ghost (K : GSem nD τ sig → ℕ) (c : Dev nD) : sProp 𝕄 :=
  iprop(invs X K c ∗ atPos ER (barCell c) 0 ∅ 0 ∗ sep3 (fun k => openTok ER (sendCell c k)) ∗ sep3 (fun k => openTok ER (recvCell c k))
    ∗ sep3 (fun k => reached ER (barCell (pr k c)) 0) ∗ toks c)

def creds (c : Dev nD) : sProp 𝕄 := iprop(cred (tallyAt (barCell c) () 3) ∗ sep3 (fun k => cred (tallyAt (recvCell c k) () N)))

/-- The same with the scoped cells opened. -/
def opened (K : GSem nD τ sig → ℕ) (c : Dev nD) : sProp 𝕄 :=
  iprop(invs X K c ∗ atPos ER (barCell c) 0 ∅ 0
    ∗ sep3 (fun k => iprop(atPos ER (sendCell c k) 0 ∅ 0 ∗ reached ER (sendCell c k) 0))
    ∗ sep3 (fun k => iprop(atPos ER (recvCell c k) 0 ∅ 0 ∗ reached ER (recvCell c k) 0))
    ∗ sep3 (fun k => reached ER (barCell (pr k c)) 0) ∗ toks c)

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

abbrev 𝒱₀ : Variants := Variants.none

end Cert.KernelIdeal.Talk
-- ==== Proof.Run.lean ====
/- One device's run of the kernel's body: three signals, the wait at the barrier, the block, three copies to the other
   devices, the waits for what lands and for what was sent, the merge. -/
module

public import proofs.«01_k».proof.Proof.Talk

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → Ins F)

/-! ## The landing buffer and its slots -/

abbrev pt (c : Dev nD) (b : Ref sig .tc) (f : b.ty.Contents (Elt F)) : sProp 𝕄 := ((c : Thread nD τ).loc b) ↦{fullShare} f

omit [FloatOps F] in
theorem slots_cover (c : Dev nD) :
    (Finset.univ : Finset (Idx ((c : Thread nD τ).loc cc0_scratch0))) = (Finset.univ : Finset (Fin 4)).biUnion (fun s => (slotM s).view.set) := by
  ext i
  refine ⟨fun _ => Finset.mem_biUnion.mpr ⟨(i 0 : Fin 4), Finset.mem_univ _, ?_⟩, fun _ => Finset.mem_univ _⟩
  have h : i ∈ Finset.univ.filter fun j : S4x64x66.Idx => (j 0).val = (i 0 : Fin 4).val := Finset.mem_filter.mpr ⟨Finset.mem_univ _, rfl⟩
  exact (slot_set (i 0)).symm ▸ h

omit [FloatOps F] in
theorem slots_disjoint (s t : Fin 4) (h : s ≠ t) : Disjoint (slotM s).view.set (slotM t).view.set := by
  rw [slot_set, slot_set, Finset.disjoint_left]
  intro i h1 h2
  rw [Finset.mem_filter] at h1 h2
  exact h (Fin.ext (h1.2.symm.trans h2.2))

omit [FloatOps F] in
theorem slots_eq (c : Dev nD) (f : S4x64x66.Idx → Elt F .f32) :
    (pt c cc0_scratch0 f : sProp 𝕄) = bigSep Finset.univ fun s : Fin 4 => slotPts c s fullShare f := by
  have h := pointsTo_biUnion (nD := nD) (τ := τ) (sig := sig) (Ix := Unit) (Val := Elt F) (Name := ℕ) (U := UU) (Lvl := ℕ) (ℓ := (c : Thread nD τ).loc cc0_scratch0)
    (q := fullShare) (f := f) (Finset.univ : Finset (Fin 4)) (fun s => (slotM s).view.set) (fun t _ t' _ h => slots_disjoint t t' h)
  rw [← slots_cover c] at h
  exact h

omit [FloatOps F] in
theorem slots_four (c : Dev nD) (f : S4x64x66.Idx → Elt F .f32) :
    (pt c cc0_scratch0 f : sProp 𝕄) = iprop(slotPts c 0 fullShare f ∗ sep3 fun k => slotPts c k.succ fullShare f) := by
  rw [slots_eq, bigSep_univ_eq_bigSepL [0, 1, 2, 3] (by decide) (by decide), bigSepL_cons_cons, bigSepL_cons_cons, bigSepL_cons_cons, bigSepL_singleton]
  rfl

omit [FloatOps F] in
theorem slot0_shares (c : Dev nD) (f : S4x64x66.Idx → Elt F .f32) :
    (slotPts c 0 fullShare f : sProp 𝕄) ⊣⊢ sep3 fun k => slotPts c 0 (qk k) f := by
  have h1 := pointsTo_share (nD := nD) (τ := τ) (sig := sig) (Ix := Unit) (Val := Elt F) (Name := ℕ) (U := UU) (Lvl := ℕ) (ℓ := (slotM 0).view.loc (c : Thread nD τ))
    (I := (slotM 0).view.set) (f := f) (PosShare.mem_left_op_right fullShare)
  have h2 := pointsTo_share (nD := nD) (τ := τ) (sig := sig) (Ix := Unit) (Val := Elt F) (Name := ℕ) (U := UU) (Lvl := ℕ) (ℓ := (slotM 0).view.loc (c : Thread nD τ))
    (I := (slotM 0).view.set) (f := f) (PosShare.mem_left_op_right fullShare.right)
  exact ⟨h1.1.trans (sep_mono_right h2.1), (sep_mono_right h2.2).trans h1.2⟩

omit [FloatOps F] in
theorem ix_of_slot {s : Fin 4} {i : S4x64x66.Idx} (h : i ∈ (slotM s).view.set) : i = (ix3 s (i 1) (i 2) : S4x64x66.Idx) := by
  rw [slot_set, Finset.mem_filter] at h
  have h0 : (i 0 : Fin 4) = s := Fin.ext h.2
  rw [← h0]; exact eq_ix3 (n0 := 4) (n1 := 64) (n2 := 66) i

/-- What a device sent is what its target holds in the slot it lands in. -/
theorem landed_slot (c : Dev nD) (k : Fin 3) (fd : S4x64x66.Idx → Elt F .f32) :
    (slotPts (pr k c) k.succ fullShare ((slotM k.succ).view.write (Elt F) fd ((slotM 0).view.read (Elt F) (allOf X c)) Finset.univ) : sProp 𝕄)
      = recvPay X (pr k c) k := by
  unfold recvPay
  refine pointsTo_congr fun i hi => ?_
  have e := ix_of_slot hi
  have h := copied k.succ fd (allOf X c) (i 1) (i 2)
  rw [e]
  refine h.trans ?_
  show packed (blkO (frm 0 c) (X (frm 0 c))) (blkM (frm 0 c) (X (frm 0 c))) (blkL (frm 0 c) (X (frm 0 c))) (i 1) (i 2)
    = packed (blkO (frm k.succ (pr k c)) (X (frm k.succ (pr k c)))) (blkM (frm k.succ (pr k c)) (X (frm k.succ (pr k c))))
      (blkL (frm k.succ (pr k c)) (X (frm k.succ (pr k c)))) (i 1) (i 2)
  rw [frm_zero, frm_succ]

/-- What the three stores leave in slot 0. -/
theorem own_slot (c : Dev nD) (f : S4x64x66.Idx → Elt F .f32) :
    (slotPts c 0 fullShare ((commM.access rL).write (Elt F) ((commM.access rM).write (Elt F) ((commM.access rO).write (Elt F) f (blkO c (X c)) Finset.univ)
      (blkM c (X c)) Finset.univ) (blkL c (X c)) Finset.univ) : sProp 𝕄) = slotPts c 0 fullShare (allOf X c) := by
  refine pointsTo_congr fun i hi => ?_
  have e := ix_of_slot hi
  have h := stored f (blkO c (X c)) (blkM c (X c)) (blkL c (X c)) (i 1) (i 2)
  rw [e]
  refine h.trans ?_
  show _ = packed (blkO (frm 0 c) (X (frm 0 c))) (blkM (frm 0 c) (X (frm 0 c))) (blkL (frm 0 c) (X (frm 0 c))) (i 1) (i 2)
  rw [frm_zero]

/-! ## The steps -/

abbrev run (c : Dev nD) (P : EffP F) (Q : PUnit.{1} → sProp 𝕄) : sProp 𝕄 := wp frame (wpE (defs₀ (F := F)) 𝒱₀ c none) Set.univ P Q

variable (K : GSem nD τ sig → ℕ) (c : Dev nD) (P : EffP F)

theorem step_signal (Q : PUnit → sProp 𝕄) (k : Fin 3) (O : CellTallies nD τ sig Unit) (W : Waits sig Unit) :
    iprop(cellInv ER (Rd X) (K (barCell (pr k c))) (barCell (pr k c)) ∗ owes (c : Thread nD τ) (O + oB c k) W
        ∗ dutyTok ER (barCell (pr k c)) 0 k.rev
        ∗ (∃ f : S4x64x66.Idx → Elt F .f32, slotPts c k.rev.succ fullShare f) ∗ reached ER (recvCell c k.rev) 0 ∗ reached ER (barCell (pr k c)) 0)
      ⊢ iprop((owes (c : Thread nD τ) O W -∗ run c P Q) -∗ run c (signalTo (pr k c) P) Q) := by
  iintro ⟨#HI, HO, Htok, Hs, #HrV, #HrB⟩ Hk
  iapply (Rounds.wp_signal 𝒱₀ ER (Rd X) (c : Thread nD τ) none (dst := (pr k c : Thread nD τ)) (sem := barS) (r := 0) (d := k.rev) (κ := K (barCell (pr k c)))
      (by rw [duties_bar]; exact Finset.mem_univ _) (amount_bar X (pr k c) k.rev) () O rfl)
    $$ [HO Htok Hs]
  · isplitr; · iexact HI
    isplitl [HO]; · iexact HO
    isplitl [Htok]; · iexact Htok
    isplitl [Hs]
    · rw [payload_bar]; unfold barPay; rw [pr_rev]
      isplitl [Hs]; · iexact Hs
      iexact HrV
    · iexact HrB
  iexact Hk

theorem step_send (Q : PUnit → sProp 𝕄) (k : Fin 3) (O : CellTallies nD τ sig Unit) (W : Waits sig Unit) :
    iprop(cellInv ER (Rd X) (K (sendCell c k)) (sendCell c k) ∗ cellInv ER (Rd X) (K (recvCell (pr k c) k)) (recvCell (pr k c) k)
        ∗ slotPts c 0 (qk k) (allOf X c) ∗ (∃ f : S4x64x66.Idx → Elt F .f32, slotPts (pr k c) k.succ fullShare f)
        ∗ owes (c : Thread nD τ) (O + oR c k) W ∗ dutyTok ER (sendCell c k) 0 0 ∗ reached ER (sendCell c k) 0
        ∗ dutyTok ER (recvCell (pr k c) k) 0 0 ∗ reached ER (recvCell (pr k c) k) 0)
      ⊢ iprop(((cred (tallyAt (sendCell c k) () N) ∗ owes (c : Thread nD τ) O W) -∗ run c P Q) -∗ run c (sendTo (pr k c) k P) Q) := by
  iintro ⟨#HI1, #HI2, Hx, ⟨%fd, Hd⟩, HO, Ht1, #Hr1, Ht2, #Hr2⟩ Hk
  iapply (Rounds.wp_send_pointsTo 𝒱₀ ER (Rd X) (c : Thread nD τ) none (c' := (pr k c : Thread nD τ)) (src := slotM 0) (dst := slotM k.succ)
      (sS := .dma (sendS k)) (sem := .dma (recvS k)) (q := qk k) (fs := allOf X c) (κ₁ := K (sendCell c k)) (κ₂ := K (recvCell (pr k c) k))
      (r₁ := 0) (r₂ := 0) (d₁ := 0) (d₂ := 0) (fd := fd)
      (by rw [duties_send]; exact Finset.mem_singleton_self _) (by rw [duties_recv]; exact Finset.mem_singleton_self _)
      () () N rfl (amount_send X c k 0) (amount_recv X (pr k c) k 0) O rfl (W := W)
      (by rw [payload_send]; exact BI.Entails.refl _)
      (by rw [payload_recv]; exact Entails.of_eq (landed_slot X c k fd))) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iexact Hk

theorem step_waitBar (Q : PUnit → sProp 𝕄) (W : Waits sig Unit) :
    iprop(cellInv ER (Rd X) (K (barCell c)) (barCell c) ∗ cred (tallyAt (barCell c) () 3) ∗ owes (c : Thread nD τ) (O₁ c) W ∗ levAts L lv
        ∗ atPos ER (barCell c) 0 ∅ 0)
      ⊢ iprop(((∃ W, owes (c : Thread nD τ) (O₁ c) W) ∗ atPos ER (barCell c) (0 + 1) ∅ 0 ∗ sep3 (barPay c) -∗ run c P Q)
        -∗ run c (.op (.semWait barS 3) fun _ => P) Q) := by
  iintro ⟨#HI, Hc, HO, #Hlev, Hat⟩ Hk
  iapply (Rounds.wp_wait_rest_token 𝒱₀ ER (Rd X) (c : Thread nD τ) none (κ := K (barCell c))
      (wpE_semWait_eq 𝒱₀ (c : Thread nD τ) none Set.univ) (Set.mem_univ _) () (O := O₁ c) (W := W) (R := 0) (m := 0) (T := ∅)
      ((Nat.zero_add 3).trans (expect_bar X c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexists _; iexact HO
  isplitl [Hat]; · iexact Hat
  iexact Hp

theorem step_waitRecv (Q : PUnit → sProp 𝕄) (k : Fin 3) :
    iprop(cellInv ER (Rd X) (K (recvCell c k)) (recvCell c k) ∗ cred (tallyAt (recvCell c k) () N) ∗ (∃ W, owes (c : Thread nD τ) 0 W)
        ∗ atPos ER (recvCell c k) 0 ∅ 0)
      ⊢ iprop(((∃ W, owes (c : Thread nD τ) 0 W) ∗ atPos ER (recvCell c k) (0 + 1) ∅ 0 ∗ recvPay X c k -∗ run c P Q)
        -∗ run c (waitRecv k P) Q) := by
  iintro ⟨#HI, Hc, ⟨%W, HO⟩, Hat⟩ Hk
  iapply (Rounds.wp_wait_rest_token 𝒱₀ ER (Rd X) (c : Thread nD τ) none (κ := K (recvCell c k))
      (wpE_waitDma2_eq (src := slotM k.succ) (dst := slotM k.succ) 𝒱₀ (c : Thread nD τ) none Set.univ) (Set.mem_univ _) () (O := 0) (W := W) (R := 0) (m := 0) (T := ∅)
      ((Nat.zero_add _).trans (expect_recv X c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv X c k)) $$ Hpay
  iapply Hk
  isplitl [HO]; · iexists _; iexact HO
  isplitl [Hat]; · iexact Hat
  iexact Hp

theorem step_waitSend (Q : PUnit → sProp 𝕄) (k : Fin 3) :
    iprop(cellInv ER (Rd X) (K (sendCell c k)) (sendCell c k) ∗ cred (tallyAt (sendCell c k) () N) ∗ (∃ W, owes (c : Thread nD τ) 0 W)
        ∗ atPos ER (sendCell c k) 0 ∅ 0)
      ⊢ iprop(((∃ W, owes (c : Thread nD τ) 0 W) ∗ atPos ER (sendCell c k) (0 + 1) ∅ 0 ∗ sendPay X c k -∗ run c P Q)
        -∗ run c (waitSend k P) Q) := by
  iintro ⟨#HI, Hc, ⟨%W, HO⟩, Hat⟩ Hk
  iapply (Rounds.wp_wait_rest_token 𝒱₀ ER (Rd X) (c : Thread nD τ) none (κ := K (sendCell c k))
      (wpE_waitDma2_eq (src := slotM k.succ) (dst := slotM 0) 𝒱₀ (c : Thread nD τ) none Set.univ) (Set.mem_univ _) () (O := 0) (W := W) (R := 0) (m := 0) (T := ∅)
      ((Nat.zero_add _).trans (expect_send X c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send X c k)) $$ Hpay
  iapply Hk
  isplitl [HO]; · iexists _; iexact HO
  isplitl [Hat]; · iexact Hat
  iexact Hp

/-- The five inputs in their staging buffers. -/
def inPts (x : Ins F) : sProp 𝕄 :=
  iprop(pt c cc0_stg0_0 x.q ∗ pt c cc0_stg1_0 x.K ∗ pt c cc0_stg2_0 x.V ∗ pt c cc0_stg3_0 x.bt ∗ pt c cc0_stg4_0 x.ln)

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

theorem step_read (Q : PUnit → sProp 𝕄) (x : Ins F) (P : Ins F → EffP F) :
    inPts c x ⊢ iprop((inPts c x -∗ run c (P x) Q) -∗ run c (readP P) Q) := by
  unfold inPts readP
  iintro ⟨Hq, HK, HV, Hb, Hl⟩ Hk
  iapply (wp_load 𝒱₀ (c : Thread nD τ) none Set.univ (m := btM) (Finset.subset_univ _)) $$ Hb; iintro Hb
  rw [show btM.view.readAt (Elt F) (Rect.unit (s := S8x64) ![0, 0] S8x64.size inb_S8x64_S8x64_0_0).toLoadRect x.bt = x.bt from
    Memref.readAt_unit_zero (Elt F) cc0_stg3_0 hz2 _ x.bt]
  iapply (wp_load 𝒱₀ (c : Thread nD τ) none Set.univ (m := lnM) (Finset.subset_univ _)) $$ Hl; iintro Hl
  rw [show lnM.view.readAt (Elt F) (Rect.unit (s := S8x1) ![0, 0] S8x1.size inb_S8x1_S8x1_0_0).toLoadRect x.ln = x.ln from
    Memref.readAt_unit_zero (Elt F) cc0_stg4_0 hz2 _ x.ln]
  iapply (wp_load 𝒱₀ (c : Thread nD τ) none Set.univ (m := KM) (Finset.subset_univ _)) $$ HK; iintro HK
  rw [show KM.view.readAt (Elt F) (Rect.unit (s := S64x16x8x64) ![0, 0, 0, 0] S64x16x8x64.size inb_S64x16x8x64_S64x16x8x64_0_0_0_0).toLoadRect x.K = x.K from
    Memref.readAt_unit_zero (Elt F) cc0_stg1_0 hz4 _ x.K]
  iapply (wp_load 𝒱₀ (c : Thread nD τ) none Set.univ (m := VM) (Finset.subset_univ _)) $$ HV; iintro HV
  rw [show VM.view.readAt (Elt F) (Rect.unit (s := S64x16x8x64) ![0, 0, 0, 0] S64x16x8x64.size inb_S64x16x8x64_S64x16x8x64_0_0_0_0).toLoadRect x.V = x.V from
    Memref.readAt_unit_zero (Elt F) cc0_stg2_0 hz4 _ x.V]
  iapply (wp_load 𝒱₀ (c : Thread nD τ) none Set.univ (m := qM) (Finset.subset_univ _)) $$ Hq; iintro Hq
  rw [show qM.view.readAt (Elt F) (Rect.unit (s := S8x8x64) ![0, 0, 0] S8x8x64.size inb_S8x8x64_S8x8x64_0_0_0).toLoadRect x.q = x.q from
    Memref.readAt_unit_zero (Elt F) cc0_stg0_0 hz3 _ x.q]
  iapply Hk
  isplitl [Hq]; · iexact Hq
  isplitl [HK]; · iexact HK
  isplitl [HV]; · iexact HV
  isplitl [Hb]; · iexact Hb
  iexact Hl

theorem step_pack (Q : PUnit → sProp 𝕄) (f : S4x64x66.Idx → Elt F .f32) :
    slotPts c 0 fullShare f ⊢ iprop((slotPts c 0 fullShare (allOf X c) -∗ run c P Q) -∗ run c (packP c (X c) P) Q) := by
  unfold packP
  iintro Hs Hk
  iapply (wp_load_rect 𝒱₀ (c : Thread nD τ) none Set.univ (m := commM) (r := rO) sub_rO) $$ Hs; iintro Hs
  iapply (wp_store 𝒱₀ (c : Thread nD τ) none Set.univ (m := commM) (r := rO) (Mk := Finset.univ) (by rw [View.setOn_univ]; exact sub_rO)) $$ Hs; iintro Hs
  iapply (wp_load_rect 𝒱₀ (c : Thread nD τ) none Set.univ (m := commM) (r := rM) sub_rM) $$ Hs; iintro Hs
  iapply (wp_store 𝒱₀ (c : Thread nD τ) none Set.univ (m := commM) (r := rM) (Mk := Finset.univ) (by rw [View.setOn_univ]; exact sub_rM)) $$ Hs; iintro Hs
  iapply (wp_load_rect 𝒱₀ (c : Thread nD τ) none Set.univ (m := commM) (r := rL) sub_rL) $$ Hs; iintro Hs
  iapply (wp_store 𝒱₀ (c : Thread nD τ) none Set.univ (m := commM) (r := rL) (Mk := Finset.univ) (by rw [View.setOn_univ]; exact sub_rL)) $$ Hs; iintro Hs
  iapply Hk
  ihave Hs' := (Entails.of_eq (own_slot X c f)) $$ Hs
  iexact Hs'

theorem step_tail (Q : PUnit → sProp 𝕄) (g : S4x64x66.Idx → Elt F .f32) (fo : S64x64.Idx → Elt F .f32) :
    iprop(pt c cc0_scratch0 g ∗ pt c cc0_stg5_0 fo)
      ⊢ iprop((pt c cc0_scratch0 g ∗ pt c cc0_stg5_0 (merge g) -∗ |={Set.univ}=> Q ⟨⟩) -∗ run c tailP Q) := by
  unfold tailP
  iintro ⟨Hs, Ho⟩ Hk
  iapply (wp_load 𝒱₀ (c : Thread nD τ) none Set.univ (m := commM) (Finset.subset_univ _)) $$ Hs; iintro Hs
  rw [show commM.view.readAt (Elt F) (Rect.unit (s := S4x64x66) ![0, 0, 0] S4x64x66.size inb_S4x64x66_S4x64x66_0_0_0).toLoadRect g = g from
    Memref.readAt_unit_zero (Elt F) cc0_scratch0 hz3 _ g]
  iapply (wp_load 𝒱₀ (c : Thread nD τ) none Set.univ (m := outM) (Finset.subset_univ _)) $$ Ho; iintro Ho
  iapply (wp_store 𝒱₀ (c : Thread nD τ) none Set.univ (m := outM) (r := Rect.unit (s := S64x64) ![0, 0] S64x64.size inb_S64x64_S64x64_0_0)
    (Mk := Finset.univ) (Finset.subset_univ _)) $$ Ho; iintro Ho
  rw [show ((outM).access (Rect.unit (s := S64x64) ![0, 0] S64x64.size inb_S64x64_S64x64_0_0) : View sig .tc _ _ _).write (Elt F) fo (merge g) Finset.univ = merge g from
    Memref.write_access_unit_zero_univ (Elt F) cc0_stg5_0 hz2 _ fo (merge g)]
  rw [wp_ret]
  iapply Hk
  isplitl [Hs]; · iexact Hs
  iexact Ho

/-! ## The run -/

def talkPre (W : Waits sig Unit) : sProp 𝕄 :=
  iprop(opened X K c ∗ creds c ∗ levAts L lv ∗ (∃ f : S4x64x66.Idx → Elt F .f32, pt c cc0_scratch0 f) ∗ inPts c (X c)
    ∗ (∃ fo : S64x64.Idx → Elt F .f32, pt c cc0_stg5_0 fo) ∗ owes (c : Thread nD τ) (O₀ c) W)

/-- All seven counters back at zero, the landing buffer at some contents, the inputs in place, the output written, nothing owed. -/
def talkPost : sProp 𝕄 :=
  iprop(semVal (barCell c) 0 ∗ sep3 (fun k => semVal (sendCell c k) 0) ∗ sep3 (fun k => semVal (recvCell c k) 0)
    ∗ pt c cc0_scratch0 (allOf X c) ∗ inPts c (X c) ∗ pt c cc0_stg5_0 (merge (allOf X c))
    ∗ ∃ W, owes (c : Thread nD τ) (0 : CellTallies nD τ sig Unit) W)

theorem open_four (f : S4x64x66.Idx → Elt F .f32) :
    pt c cc0_scratch0 f ⊢ iprop(slotPts c 0 fullShare f ∗ slotPts c 1 fullShare f ∗ slotPts c 2 fullShare f ∗ slotPts c 3 fullShare f) := by
  rw [slots_four]; unfold sep3; exact BI.Entails.refl _
theorem close_four :
    iprop(slotPts c 0 fullShare (allOf X c) ∗ recvPay X c 0 ∗ recvPay X c 1 ∗ recvPay X c 2) ⊢ pt c cc0_scratch0 (allOf X c) := by
  rw [slots_four]; unfold sep3 recvPay; exact BI.Entails.refl _
theorem open_bar :
    sep3 (barPay (F := F) c) ⊢ iprop(((∃ f : S4x64x66.Idx → Elt F .f32, slotPts (pr 0 c) 1 fullShare f) ∗ reached ER (recvCell (pr 0 c) 0) 0)
      ∗ ((∃ f : S4x64x66.Idx → Elt F .f32, slotPts (pr 1 c) 2 fullShare f) ∗ reached ER (recvCell (pr 1 c) 1) 0)
      ∗ ((∃ f : S4x64x66.Idx → Elt F .f32, slotPts (pr 2 c) 3 fullShare f) ∗ reached ER (recvCell (pr 2 c) 2) 0)) := by
  unfold sep3 barPay; exact BI.Entails.refl _
theorem open_shares :
    slotPts c 0 fullShare (allOf X c) ⊢ iprop(slotPts c 0 (qk 0) (allOf X c) ∗ slotPts c 0 (qk 1) (allOf X c) ∗ slotPts c 0 (qk 2) (allOf X c)) :=
  (slot0_shares c (allOf X c)).1
theorem close_shares :
    iprop(sendPay X c 0 ∗ sendPay X c 1 ∗ sendPay X c 2) ⊢ slotPts c 0 fullShare (allOf X c) :=
  (slot0_shares c (allOf X c)).2

set_option maxHeartbeats 1600000 in
theorem talkRun (Q : PUnit → sProp 𝕄) (W : Waits sig Unit) :
    iprop(talkPre X K c W ∗ (talkPost X c -∗ Q ⟨⟩))
      ⊢ run c (bodyP c (pr 0 c) (pr 1 c) (pr 2 c) (pr 0 c) (pr 1 c) (pr 2 c)) Q := by
  unfold talkPre opened invs toks creds sep3 O₀ bodyP talkP talkPost sep3
  beta_reduce
  iintro ⟨⟨⟨⟨#HIb, ⟨#HIs0, #HIs1, #HIs2⟩, ⟨#HIr0, #HIr1, #HIr2⟩, ⟨#HIB0, #HIB1, #HIB2⟩, ⟨#HIR0, #HIR1, #HIR2⟩⟩, Hab,
      ⟨⟨Has0, #Hrs0⟩, ⟨Has1, #Hrs1⟩, ⟨Has2, #Hrs2⟩⟩, ⟨⟨Har0, #Hrr0⟩, ⟨Har1, #Hrr1⟩, ⟨Har2, #Hrr2⟩⟩, ⟨#HrB0, #HrB1, #HrB2⟩,
      ⟨HtB0, HtB1, HtB2⟩, ⟨HtR0, HtR1, HtR2⟩, ⟨HtS0, HtS1, HtS2⟩⟩, ⟨Hcb, Hcr0, Hcr1, Hcr2⟩, #Hlev, ⟨%f, Hf⟩, Hin, ⟨%fo, Hfo⟩, HO⟩, Hk⟩
  ihave Hf := (open_four c f) $$ Hf
  icases Hf with ⟨Hf0, Hf1, Hf2, Hf3⟩
  iapply (step_signal X K c _ Q 0 (O₁ c + oB c 2 + oB c 1) W) $$ [HO HtB0 Hf3]
  · isplitr; · iexact HIB0
    isplitl [HO]; · iexact HO
    isplitl [HtB0]; · iexact HtB0
    isplitl [Hf3]; · iexists f; iexact Hf3
    isplitr; · iexact Hrr2
    iexact HrB0
  iintro HO
  iapply (step_signal X K c _ Q 1 (O₁ c + oB c 2) W) $$ [HO HtB1 Hf2]
  · isplitr; · iexact HIB1
    isplitl [HO]; · iexact HO
    isplitl [HtB1]; · iexact HtB1
    isplitl [Hf2]; · iexists f; iexact Hf2
    isplitr; · iexact Hrr1
    iexact HrB1
  iintro HO
  iapply (step_signal X K c _ Q 2 (O₁ c) W) $$ [HO HtB2 Hf1]
  · isplitr; · iexact HIB2
    isplitl [HO]; · iexact HO
    isplitl [HtB2]; · iexact HtB2
    isplitl [Hf1]; · iexists f; iexact Hf1
    isplitr; · iexact Hrr0
    iexact HrB2
  iintro HO
  iapply (step_waitBar X K c _ Q W) $$ [Hcb HO Hab]
  · isplitr; · iexact HIb
    isplitl [Hcb]; · iexact Hcb
    isplitl [HO]; · iexact HO
    isplitr; · iexact Hlev
    iexact Hab
  iintro ⟨⟨%W', HO⟩, Hab, Hp⟩
  ihave Hp := (open_bar c) $$ Hp
  icases Hp with ⟨⟨Hd0, #HrR0⟩, ⟨Hd1, #HrR1⟩, ⟨Hd2, #HrR2⟩⟩
  iapply (step_read c Q (X c) _) $$ Hin
  iintro Hin
  iapply (step_pack X c _ Q f) $$ Hf0
  iintro Hf0
  ihave Hsh := (open_shares X c) $$ Hf0
  icases Hsh with ⟨Hq0, Hq1, Hq2⟩
  iapply (step_send X K c _ Q 0 (0 + oR c 2 + oR c 1) W') $$ [HO Hq0 Hd0 HtS0 HtR0]
  · isplitr; · iexact HIs0
    isplitr; · iexact HIR0
    isplitl [Hq0]; · iexact Hq0
    isplitl [Hd0]; · iexact Hd0
    isplitl [HO]; · iexact HO
    isplitl [HtS0]; · iexact HtS0
    isplitr; · iexact Hrs0
    isplitl [HtR0]; · iexact HtR0
    iexact HrR0
  iintro ⟨Hcs0, HO⟩
  iapply (step_send X K c _ Q 1 (0 + oR c 2) W') $$ [HO Hq1 Hd1 HtS1 HtR1]
  · isplitr; · iexact HIs1
    isplitr; · iexact HIR1
    isplitl [Hq1]; · iexact Hq1
    isplitl [Hd1]; · iexact Hd1
    isplitl [HO]; · iexact HO
    isplitl [HtS1]; · iexact HtS1
    isplitr; · iexact Hrs1
    isplitl [HtR1]; · iexact HtR1
    iexact HrR1
  iintro ⟨Hcs1, HO⟩
  iapply (step_send X K c _ Q 2 0 W') $$ [HO Hq2 Hd2 HtS2 HtR2]
  · isplitr; · iexact HIs2
    isplitr; · iexact HIR2
    isplitl [Hq2]; · iexact Hq2
    isplitl [Hd2]; · iexact Hd2
    isplitl [HO]; · iexact HO
    isplitl [HtS2]; · iexact HtS2
    isplitr; · iexact Hrs2
    isplitl [HtR2]; · iexact HtR2
    iexact HrR2
  iintro ⟨Hcs2, HO⟩
  iapply (step_waitRecv X K c _ Q 0) $$ [Hcr0 HO Har0]
  · isplitr; · iexact HIr0
    isplitl [Hcr0]; · iexact Hcr0
    isplitl [HO]; · iexists W'; iexact HO
    iexact Har0
  iintro ⟨HO, Har0, Hs1⟩
  iapply (step_waitRecv X K c _ Q 1) $$ [Hcr1 HO Har1]
  · isplitr; · iexact HIr1
    isplitl [Hcr1]; · iexact Hcr1
    isplitl [HO]; · iexact HO
    iexact Har1
  iintro ⟨HO, Har1, Hs2⟩
  iapply (step_waitRecv X K c _ Q 2) $$ [Hcr2 HO Har2]
  · isplitr; · iexact HIr2
    isplitl [Hcr2]; · iexact Hcr2
    isplitl [HO]; · iexact HO
    iexact Har2
  iintro ⟨HO, Har2, Hs3⟩
  iapply (step_waitSend X K c _ Q 0) $$ [Hcs0 HO Has0]
  · isplitr; · iexact HIs0
    isplitl [Hcs0]; · iexact Hcs0
    isplitl [HO]; · iexact HO
    iexact Has0
  iintro ⟨HO, Has0, Hq0⟩
  iapply (step_waitSend X K c _ Q 1) $$ [Hcs1 HO Has1]
  · isplitr; · iexact HIs1
    isplitl [Hcs1]; · iexact Hcs1
    isplitl [HO]; · iexact HO
    iexact Has1
  iintro ⟨HO, Has1, Hq1⟩
  iapply (step_waitSend X K c _ Q 2) $$ [Hcs2 HO Has2]
  · isplitr; · iexact HIs2
    isplitl [Hcs2]; · iexact Hcs2
    isplitl [HO]; · iexact HO
    iexact Has2
  iintro ⟨HO, Has2, Hq2⟩
  ihave Hf0 := (close_shares X c) $$ [Hq0 Hq1 Hq2]
  · isplitl [Hq0]; · iexact Hq0
    isplitl [Hq1]; · iexact Hq1
    iexact Hq2
  ihave Hf := (close_four X c) $$ [Hf0 Hs1 Hs2 Hs3]
  · isplitl [Hf0]; · iexact Hf0
    isplitl [Hs1]; · iexact Hs1
    isplitl [Hs2]; · iexact Hs2
    iexact Hs3
  iapply (step_tail c Q (allOf X c) fo) $$ [Hf Hfo]
  · isplitl [Hf]; · iexact Hf
    iexact Hfo
  iintro ⟨Hf, Hfo⟩
  imod (close X (K (barCell c)) (barCell c)) $$ [Hab] with Hzb
  · isplitr; · iexact HIb
    iexact Hab
  imod (close X (K (sendCell c 0)) (sendCell c 0)) $$ [Has0] with Hzs0
  · isplitr; · iexact HIs0
    iexact Has0
  imod (close X (K (sendCell c 1)) (sendCell c 1)) $$ [Has1] with Hzs1
  · isplitr; · iexact HIs1
    iexact Has1
  imod (close X (K (sendCell c 2)) (sendCell c 2)) $$ [Has2] with Hzs2
  · isplitr; · iexact HIs2
    iexact Has2
  imod (close X (K (recvCell c 0)) (recvCell c 0)) $$ [Har0] with Hzr0
  · isplitr; · iexact HIr0
    iexact Har0
  imod (close X (K (recvCell c 1)) (recvCell c 1)) $$ [Har1] with Hzr1
  · isplitr; · iexact HIr1
    iexact Har1
  imod (close X (K (recvCell c 2)) (recvCell c 2)) $$ [Har2] with Hzr2
  · isplitr; · iexact HIr2
    iexact Har2
  imodintro
  iapply Hk
  isplitl [Hzb]; · iexact Hzb
  isplitl [Hzs0 Hzs1 Hzs2]
  · isplitl [Hzs0]; · iexact Hzs0
    isplitl [Hzs1]; · iexact Hzs1
    iexact Hzs2
  isplitl [Hzr0 Hzr1 Hzr2]
  · isplitl [Hzr0]; · iexact Hzr0
    isplitl [Hzr1]; · iexact Hzr1
    iexact Hzr2
  isplitl [Hf]; · iexact Hf
  isplitl [Hin]; · iexact Hin
  isplitl [Hfo]; · iexact Hfo
  iexact HO

end Cert.KernelIdeal.Talk
-- ==== Proof.Region.lean ====
/- The kernel as a region of the program: what its windows hold, what its one step of the grid starts from and ends with,
   and the host's lines around it. -/
module

public import proofs.«01_k».proof.Proof.Run
public import proofs.«01_k».proof.Proof.Gen.KernelIdeal.Frame

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- What device `c` reads. -/
def ins (c : Dev nD) : Ins F := ⟨iblk m c 0 t0_0, iblk m c 1 t0_0, iblk m c 2 t0_0, iblk m c 3 t0_0, iblk m c 4 t0_0⟩

/-- The counters the kernel uses of its own. -/
abbrev osem : Fin 2 × Fin 3 → SemLoc sig := fun | (0, k) => .dma (sendS k) | (1, k) => .dma (recvS k)

theorem ownSems_eq (c : Dev nD) : (Pipeline.ownSems0 osem c : sProp 𝕄)
    = iprop(sep3 (fun k => semVal (sendCell c k) 0) ∗ sep3 (fun k => semVal (recvCell c k) 0)) := by
  unfold Pipeline.ownSems0
  rw [bigSep_univ_prod, BI.bigSep_fin_two, bigSep_fin3, bigSep_fin3]
  rfl

/-! ## The thread's states -/

/-- What comes from the launch. -/
def Tk (c : Dev nD) : sProp 𝕄 := iprop((∃ K, ghost (ins m) K c) ∗ creds c)
/-- The same after the kernel's own counters went in. -/
def Xk (c : Dev nD) : sProp 𝕄 := iprop((∃ K, opened (ins m) K c) ∗ creds c ∗ levAts L lv)
def Yk (c : Dev nD) : sProp 𝕄 := semVal (barCell c) 0

def scr (c : Dev nD) : sProp 𝕄 := iprop(∃ f : S4x64x66.Idx → Elt F .f32, pt c cc0_scratch0 f)
def Φ₀ (c : Dev nD) : sProp 𝕄 := iprop(Xk m c ∗ scr c ∗ ∃ r, prngReg c r)
def Φ₁ (c : Dev nD) : sProp 𝕄 := iprop(Yk c ∗ Pipeline.ownSems0 osem c ∗ scr c ∗ ∃ r, prngReg c r)

/-- The output of device `c`. -/
def outAt (c : Dev nD) : S64x64.Idx → Elt F .f32 := merge (allOf (ins m) c)

def dat (c : Dev nD) : Dat τ (Elt F) Unit ℕ UU ℕ cfg0 c where
  A w := V m c (Pipeline.arrRef spec0 w)
  after w _ := match w with
    | 0 => iblk m c 0 t0_0 | 1 => iblk m c 1 t0_0 | 2 => iblk m c 2 t0_0 | 3 => iblk m c 3 t0_0 | 4 => iblk m c 4 t0_0
    | 5 => outAt m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if (0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_of (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin
  rw [h]
  iintro HO
  iexists W
  isplitr; · ipureintro; exact fun _ _ => Or.inl trivial
  iexact HO
theorem of_owesAt (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-! ## The body -/

/-- A whole staging buffer at given contents. -/
abbrev stg (c : Dev nD) (b : Ref sig .tc) (x : b.ty.Contents (Elt F)) : sProp 𝕄 :=
  iprop(∃ f : Buf (Elt F) ((c : Thread nD τ).loc b), ⌜f = x⌝ ∗ ((c : Thread nD τ).loc b) ↦{fullShare} f)
theorem owns_stg (c : Dev nD) (b : Ref sig .tc) (x : b.ty.Contents (Elt F)) :
    (owns (c : Thread nD τ) (Memref.whole b) fullShare x : sProp 𝕄) = stg c b x := by
  unfold owns
  simp only [Memref.view_whole, View.read_whole, View.set_whole]
theorem stg_pt (c : Dev nD) (b : Ref sig .tc) (x : b.ty.Contents (Elt F)) : (stg c b x : sProp 𝕄) ⊢ pt c b x := by
  iintro ⟨%f, %h, H⟩
  subst h
  iexact H
theorem pt_stg (c : Dev nD) (b : Ref sig .tc) (x : b.ty.Contents (Elt F)) : (pt c b x : sProp 𝕄) ⊢ stg c b x := by
  iintro H
  iexists x
  isplitr; · ipureintro; rfl
  iexact H

theorem before0 (c : Dev nD) (d) : (dat m c).before (0 : Fin 6) t0_0 d = iblk m c 0 t0_0 := by unfold Dat.before; rw [if_pos (fetch0_0 t0_0)]; rfl
theorem before1 (c : Dev nD) (d) : (dat m c).before (1 : Fin 6) t0_0 d = iblk m c 1 t0_0 := by unfold Dat.before; rw [if_pos (fetch0_1 t0_0)]; rfl
theorem before2 (c : Dev nD) (d) : (dat m c).before (2 : Fin 6) t0_0 d = iblk m c 2 t0_0 := by unfold Dat.before; rw [if_pos (fetch0_2 t0_0)]; rfl
theorem before3 (c : Dev nD) (d) : (dat m c).before (3 : Fin 6) t0_0 d = iblk m c 3 t0_0 := by unfold Dat.before; rw [if_pos (fetch0_3 t0_0)]; rfl
theorem before4 (c : Dev nD) (d) : (dat m c).before (4 : Fin 6) t0_0 d = iblk m c 4 t0_0 := by unfold Dat.before; rw [if_pos (fetch0_4 t0_0)]; rfl

def bodyPre (c : Dev nD) : sProp 𝕄 :=
  iprop(Φ₀ m c ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
def bodyPost (c : Dev nD) : sProp 𝕄 :=
  iprop(Φ₁ c ∗ (dat m c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt m c))

theorem body_run (c : Dev nD) :
    bodyPre m c ⊢ run c (bodyP c (pr 0 c) (pr 1 c) (pr 2 c) (pr 0 c) (pr 1 c) (pr 2 c)) (fun _ => bodyPost m c) := by
  unfold bodyPre Φ₀ Xk scr
  simp only [before0, before1, before2, before3, before4]
  iintro ⟨⟨⟨⟨%K, Hg⟩, Hcr, Hlev⟩, Hs, Hreg⟩, Ho, ⟨%d0, H0⟩, ⟨%d1, H1⟩, ⟨%d2, H2⟩, ⟨%d3, H3⟩, ⟨%d4, H4⟩, ⟨%d5, H5⟩⟩
  ihave HO := (of_owesAt m c _ (O₀ c) (owed_first m c)) $$ Ho
  icases HO with ⟨%W, HO⟩
  ihave H0 := (stg_pt c cc0_stg0_0 _) $$ H0
  ihave H1 := (stg_pt c cc0_stg1_0 _) $$ H1
  ihave H2 := (stg_pt c cc0_stg2_0 _) $$ H2
  ihave H3 := (stg_pt c cc0_stg3_0 _) $$ H3
  ihave H4 := (stg_pt c cc0_stg4_0 _) $$ H4
  ihave H5 := (stg_pt c cc0_stg5_0 _) $$ H5
  iapply (talkRun (ins m) K c (fun _ => bodyPost m c) W)
  isplitr [Hreg]
  · unfold talkPre inPts
    isplitl [Hg]; · iexact Hg
    isplitl [Hcr]; · iexact Hcr
    isplitl [Hlev]; · iexact Hlev
    isplitl [Hs]; · iexact Hs
    isplitl [H0 H1 H2 H3 H4]
    · isplitl [H0]; · iexact H0
      isplitl [H1]; · iexact H1
      isplitl [H2]; · iexact H2
      isplitl [H3]; · iexact H3
      iexact H4
    isplitl [H5]; · iexists _; iexact H5
    iexact HO
  unfold talkPost inPts bodyPost Φ₁ Yk scr
  rw [ownSems_eq]
  iintro ⟨Hb, Hss, Hrs, Hs, ⟨H0, H1, H2, H3, H4⟩, H5, ⟨%W', HO⟩⟩
  isplitl [Hb Hss Hrs Hs Hreg]
  · isplitl [Hb]; · iexact Hb
    isplitl [Hss Hrs]
    · isplitl [Hss]; · iexact Hss
      iexact Hrs
    isplitl [Hs]; · iexists _; iexact Hs
    iexact Hreg
  isplitl [HO]; · iapply (owesAt_of m c t0_0.succ 0 (owed_last m c) W'); iexact HO
  isplitl [H0]; · iapply (pt_stg c cc0_stg0_0 _); iexact H0
  isplitl [H1]; · iapply (pt_stg c cc0_stg1_0 _); iexact H1
  isplitl [H2]; · iapply (pt_stg c cc0_stg2_0 _); iexact H2
  isplitl [H3]; · iapply (pt_stg c cc0_stg3_0 _); iexact H3
  isplitl [H4]; · iapply (pt_stg c cc0_stg4_0 _); iexact H4
  iapply (pt_stg c cc0_stg5_0 _); iexact H5

theorem body (c : Dev nD) : BodyObligation (dat m c) defs₀ 𝒱₀ () Set.univ := fun t => by
  rw [fin_N0 t]
  rw [bigSep_W0, bigSep_W0]
  show iprop(_ ∗ _ ∗ (∃ d, owns (c : Thread nD τ) (Memref.whole cc0_stg0_0) fullShare ((dat m c).before (0 : Fin 6) t0_0 d))
      ∗ (∃ d, owns (c : Thread nD τ) (Memref.whole cc0_stg1_0) fullShare ((dat m c).before (1 : Fin 6) t0_0 d))
      ∗ (∃ d, owns (c : Thread nD τ) (Memref.whole cc0_stg2_0) fullShare ((dat m c).before (2 : Fin 6) t0_0 d))
      ∗ (∃ d, owns (c : Thread nD τ) (Memref.whole cc0_stg3_0) fullShare ((dat m c).before (3 : Fin 6) t0_0 d))
      ∗ (∃ d, owns (c : Thread nD τ) (Memref.whole cc0_stg4_0) fullShare ((dat m c).before (4 : Fin 6) t0_0 d))
      ∗ (∃ d, owns (c : Thread nD τ) (Memref.whole cc0_stg5_0) fullShare ((dat m c).before (5 : Fin 6) t0_0 d)))
    ⊢ wp frame (wpE (defs₀ (F := F)) 𝒱₀ c none) Set.univ (bodyAt0 t0_0) (fun _ => iprop(_ ∗ _
      ∗ owns (c : Thread nD τ) (Memref.whole cc0_stg0_0) fullShare (iblk m c 0 t0_0)
      ∗ owns (c : Thread nD τ) (Memref.whole cc0_stg1_0) fullShare (iblk m c 1 t0_0)
      ∗ owns (c : Thread nD τ) (Memref.whole cc0_stg2_0) fullShare (iblk m c 2 t0_0)
      ∗ owns (c : Thread nD τ) (Memref.whole cc0_stg3_0) fullShare (iblk m c 3 t0_0)
      ∗ owns (c : Thread nD τ) (Memref.whole cc0_stg4_0) fullShare (iblk m c 4 t0_0)
      ∗ owns (c : Thread nD τ) (Memref.whole cc0_stg5_0) fullShare (outAt m c)))
  simp only [owns_stg]
  rw [show bodyAt0 (F := F) t0_0 = _ from body_eq _ _ _ _ _ _ _]
  show bodyPre m c ⊢ wp frame (wpE (defs₀ (F := F)) 𝒱₀ c none) Set.univ _ (fun _ => bodyPost m c)
  rw [wp_deviceId]
  show bodyPre m c ⊢ run c (bodyP c ⟨k0_dev1 c, k0_dev1_lt c⟩ ⟨k0_dev2 c, k0_dev2_lt c⟩ ⟨k0_dev3 c, k0_dev3_lt c⟩
          ⟨k0_dev4 c, k0_dev4_lt c⟩ ⟨k0_dev5 c, k0_dev5_lt c⟩ ⟨k0_dev6 c, k0_dev6_lt c⟩) (fun _ => bodyPost m c)
  rw [dev1_eq, dev2_eq, dev3_eq, dev4_eq, dev5_eq, dev6_eq]
  exact body_run m c

end Cert.KernelIdeal.Talk
-- ==== Proof.Launch.lean ====
/- The launch of the four devices, and the whole program's run: what every final state holds. -/
module

public import proofs.«01_k».proof.Proof.Region
public import Idealize.ShloMosaic.Lib.Pipeline.ValueKit

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers at the stages of the program -/

abbrev v3 : DevRef τ sig := Proc.devRef .tc main_v3
/-- All buffers of the program that outlive the kernel. -/
abbrev bufs : Finset (DevRef τ sig) := Pipeline.ucRefs τ sig
abbrev arrs : Finset (DevRef τ sig) := Pipeline.arrRefs (τ := τ) (pcfgs (F := F) 0).spec

/-- Before the kernel's region, after it, at the end. -/
abbrev W₁ (c : Dev nD) : Valuation τ sig (Elt F) := StableHlo.after hostOps0 (fun b => m (c, b))
abbrev W₂ (c : Dev nD) : Valuation τ sig (Elt F) := Function.update (W₁ m c) v3 (outAt m c)
abbrev W₃ (c : Dev nD) : Valuation τ sig (Elt F) := StableHlo.after hostOps1 (W₂ m c)

theorem arrs_sub : (arrs (F := F)) ⊆ bufs := Pipeline.arrRefs_sub_ucRefs spec0 winFacts0.arr_unscoped

theorem out_whole (c : Dev nD) : (dat m c).arrAt 5 cfg0.N = outAt m c := by
  refine (dat m c).arrAt_eq_of_after_last 5 t0_0 (by decide +kernel) _ fun j => ?_
  blk_simp
  try rfl

theorem v3_ne (w : Fin 6) (h : w ≠ 5) : Proc.devRef .tc (Pipeline.arrRef spec0 w) ≠ (v3 : DevRef τ sig) := by
  have : ∀ w : Fin 6, w ≠ 5 → Pipeline.arrRef spec0 w ≠ main_v3 := by decide
  exact fun e => this w h (Proc.devRef_injective _ e)

theorem arr_before (c : Dev nD) (w) : (pdats m 0 c).arrAt w 0 = W₁ m c (Proc.devRef .tc (Pipeline.arrRef (Pipeline.pin (pcfgs (F := F)) adm 0).spec w)) := rfl
theorem arr_in (c : Dev nD) (w : Fin 6) (hw : (cfg0.win w).isOut = false) (h5 : w ≠ 5) :
    (dat m c).arrAt w cfg0.N = W₂ m c (Proc.devRef .tc (Pipeline.arrRef spec0 w)) := by
  rw [(dat m c).arrAt_in w hw]
  exact (Function.update_of_ne (v3_ne w h5) (outAt m c) (W₁ m c)).symm
theorem arr_after (c : Dev nD) : ∀ w, (pdats m 0 c).arrAt w (Pipeline.pin (pcfgs (F := F)) adm 0).N
    = W₂ m c (Proc.devRef .tc (Pipeline.arrRef (Pipeline.pin (pcfgs (F := F)) adm 0).spec w))
  | 0 => arr_in m c 0 rfl (by decide)
  | 1 => arr_in m c 1 rfl (by decide)
  | 2 => arr_in m c 2 rfl (by decide)
  | 3 => arr_in m c 3 rfl (by decide)
  | 4 => arr_in m c 4 rfl (by decide)
  | 5 => (out_whole m c).trans (Function.update_self v3 (outAt m c) (W₁ m c)).symm

theorem v3_mem : v3 ∈ (arrs (F := F)) := by
  unfold arrs Pipeline.arrRefs
  exact Finset.mem_map_of_mem (a := main_v3) ⟨Proc.devRef (sig := sig) (τ := τ) .tc, Proc.devRef_injective _⟩ (Finset.mem_image.mpr ⟨(5 : Fin 6), Finset.mem_univ _, rfl⟩)

/-! ## The three segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers: before the region and after it. -/
def R₀ (c : Dev nD) : sProp 𝕄 := iprop(Tk m c ∗ (∃ r, prngReg c r) ∗ ∃ W, owes (c : Thread nD τ) (O₀ c) W)
def R₁ (c : Dev nD) : sProp 𝕄 := iprop(semVal (barCell c) 0 ∗ ∃ W, owes (c : Thread nD τ) (0 : CellTallies nD τ sig Unit) W)

theorem ops0_in : ∀ op ∈ (hostOps0 : List (HloOp τ sig (Elt F))), op.bufs ⊆ bufs := fun op h =>
  Pipeline.sub_ucRefs op (List.forall_iff_forall_mem.mp hostOps0_sub op h)
theorem ops1_in : ∀ op ∈ (hostOps1 : List (HloOp τ sig (Elt F))), op.bufs ⊆ bufs := fun op h =>
  Pipeline.sub_ucRefs op (List.forall_iff_forall_mem.mp hostOps1_sub op h)

def seg0 : ℍ := Pipeline.HostSeg.ofOps _ _ _ _ _ bufs hostOps0 ops0_in (List.forall_iff_forall_mem.mp hostOps0_fresh) (fun c b => m (c, b)) (R₀ m)
def seg1 : ℍ := Pipeline.HostSeg.ofOps _ _ _ _ _ bufs hostOps1 ops1_in (List.forall_iff_forall_mem.mp hostOps1_fresh) (W₂ m) R₁

theorem open_own (c : Dev nD) : iprop(Tk m c ∗ Pipeline.ownSems0 osem c ∗ levAts L lv) ⊢ (|={Set.univ}=> Xk m c : sProp 𝕄) := by
  rw [ownSems_eq]
  unfold Tk Xk ghost opened invs sep3
  beta_reduce
  iintro ⟨⟨⟨%K, ⟨⟨#HIb, ⟨#HIs0, #HIs1, #HIs2⟩, ⟨#HIr0, #HIr1, #HIr2⟩, #HIB, #HIR⟩, Hab, ⟨Hos0, Hos1, Hos2⟩, ⟨Hor0, Hor1, Hor2⟩, #HrB, Ht⟩⟩, Hcr⟩,
    ⟨⟨Hs0, Hs1, Hs2⟩, ⟨Hr0, Hr1, Hr2⟩⟩, #Hlev⟩
  imod (Rounds.cell_open ER (Rd (ins m)) (g := sendCell c 0) (Set.mem_univ (K (sendCell c 0)))) $$ [Hos0 Hs0] with ⟨Has0, #Hrs0⟩
  · isplitr; · iexact HIs0
    isplitl [Hos0] <;> iassumption
  imod (Rounds.cell_open ER (Rd (ins m)) (g := sendCell c 1) (Set.mem_univ (K (sendCell c 1)))) $$ [Hos1 Hs1] with ⟨Has1, #Hrs1⟩
  · isplitr; · iexact HIs1
    isplitl [Hos1] <;> iassumption
  imod (Rounds.cell_open ER (Rd (ins m)) (g := sendCell c 2) (Set.mem_univ (K (sendCell c 2)))) $$ [Hos2 Hs2] with ⟨Has2, #Hrs2⟩
  · isplitr; · iexact HIs2
    isplitl [Hos2] <;> iassumption
  imod (Rounds.cell_open ER (Rd (ins m)) (g := recvCell c 0) (Set.mem_univ (K (recvCell c 0)))) $$ [Hor0 Hr0] with ⟨Har0, #Hrr0⟩
  · isplitr; · iexact HIr0
    isplitl [Hor0] <;> iassumption
  imod (Rounds.cell_open ER (Rd (ins m)) (g := recvCell c 1) (Set.mem_univ (K (recvCell c 1)))) $$ [Hor1 Hr1] with ⟨Har1, #Hrr1⟩
  · isplitr; · iexact HIr1
    isplitl [Hor1] <;> iassumption
  imod (Rounds.cell_open ER (Rd (ins m)) (g := recvCell c 2) (Set.mem_univ (K (recvCell c 2)))) $$ [Hor2 Hr2] with ⟨Har2, #Hrr2⟩
  · isplitr; · iexact HIr2
    isplitl [Hor2] <;> iassumption
  imodintro
  isplitr [Hcr]
  · iexists K
    isplitr
    · isplitr; · iexact HIb
      isplitr
      · isplitr; · iexact HIs0
        isplitr; · iexact HIs1
        iexact HIs2
      isplitr
      · isplitr; · iexact HIr0
        isplitr; · iexact HIr1
        iexact HIr2
      isplitr; · iexact HIB
      iexact HIR
    isplitl [Hab]; · iexact Hab
    isplitl [Has0 Has1 Has2]
    · isplitl [Has0]
      · isplitl [Has0]; · iexact Has0
        iexact Hrs0
      isplitl [Has1]
      · isplitl [Has1]; · iexact Has1
        iexact Hrs1
      isplitl [Has2]; · iexact Has2
      iexact Hrs2
    isplitl [Har0 Har1 Har2]
    · isplitl [Har0]
      · isplitl [Har0]; · iexact Har0
        iexact Hrr0
      isplitl [Har1]
      · isplitl [Har1]; · iexact Har1
        iexact Hrr1
      isplitl [Har2]; · iexact Har2
      iexact Hrr2
    isplitr; · iexact HrB
    iexact Ht
  isplitl [Hcr]; · iexact Hcr
  iexact Hlev

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w) : (pdats (F := F) m 0 c).share w = fullShare := by unfold Dat.share; split <;> rfl

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨k, rfl⟩ | ⟨k, rfl⟩
    · exact ⟨by rw [L_tc]; exact Finset.mem_singleton_self _, by show 0 < lvS (.dma (recvS k)); rw [lv_recv]; decide⟩
    · exact ⟨by rw [L_tc]; exact Finset.mem_singleton_self _, Nat.one_pos⟩
  · exact absurd h (Nat.lt_irrefl 0)

theorem stg_level : ∀ (w : Fin 6) (s : Fin (spec0 w).nbuf), lvS (.dma ((spec0 w).sem s)) ≤ 0 := by decide

abbrev noBufs : Finset (DevRef τ sig) := ∅
theorem held_none (c : Dev nD) (W : Valuation τ sig (Elt F)) : (StableHlo.held (c.tc : Thread nD τ) noBufs W : sProp 𝕄) = BI.emp := by
  unfold StableHlo.held; exact BI.bigSep_empty

theorem to_Φ (c : Dev nD) : iprop(Pipeline.scopedRest (Pipeline.pin (pcfgs (F := F)) adm 0).spec c ∗ (∃ r, prngReg c r)
      ∗ StableHlo.held (c.tc : Thread nD τ) noBufs (W₁ m c) ∗ Xk m c) ⊢ (pdats m 0 c).Φ 0 := by
  rw [show (pdats m 0 c).Φ 0 = Φ₀ m c from rfl,
    show (Pipeline.scopedRest (Ix := Unit) (Name := ℕ) (U := UU) (Lvl := ℕ) (Val := Elt F) (Pipeline.pin (pcfgs (F := F)) adm 0).spec c : sProp 𝕄) = scr c from scopedRest0_eq c]
  unfold Φ₀
  iintro ⟨Hs, Hp, -, HX⟩
  isplitl [HX]; · iexact HX
  isplitl [Hs]; · iexact Hs
  iexact Hp
theorem of_Φ (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) noBufs (W₂ m c) ∗ Pipeline.ownSems0 osem c ∗ Yk c) := by
  rw [show (pdats m 0 c).Φ (Fin.last _) = Φ₁ c from rfl, held_none,
    show (Pipeline.scopedRest (Ix := Unit) (Name := ℕ) (U := UU) (Lvl := ℕ) (Val := Elt F) (Pipeline.pin (pcfgs (F := F)) adm 0).spec c : sProp 𝕄) = scr c from scopedRest0_eq c]
  unfold Φ₁
  iintro ⟨HY, Ho, Hs, Hp⟩
  isplitl [Hs]; · iexact Hs
  isplitl [Hp]; · iexact Hp
  isplitr; · iempintro
  isplitl [Ho]; · iexact Ho
  iexact HY

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    noBufs (bufs \ arrs (F := F)) (Finset.empty_subset _) kitP rfl (fun c => (body m c).loose)
    (fun _ => 0) O₀ (fun c => (owed_zero m c).trans (zero_add _).symm) (owed_last m) (fun _ => rfl) (share_full m)
    (W₁ m) (W₂ m) (fun c b hb => Function.update_of_ne (fun e => by
      rw [Finset.sdiff_empty, Finset.mem_sdiff] at hb; exact hb.2 (e ▸ v3_mem (F := F))) _ _)
    (Tk m) Yk (Xk m) Yk (open_own m) (to_Φ m) (of_Φ m)
    (fun c => by iintro H; imodintro; iexact H)
    (fun _ => 0)
    ⟨fun _ w s => by rw [L_tc]; exact Finset.mem_singleton_self _, fun _ w s => stg_level w s, fun c t g i h => cut m c t g i h⟩
    (fun _ => iprop(emp))
    (arr_before m) (arr_after m)

theorem reg_pre (c : Dev nD) : iprop(StableHlo.held (c : Thread nD τ) bufs (W₁ m c) ∗ R₀ m c) ⊢ (reg m).pre c := by
  show _ ⊢ iprop(StableHlo.held (c.tc : Thread nD τ) (arrs (F := F)) (W₁ m c) ∗ (∃ r, prngReg c r)
    ∗ (StableHlo.held (c.tc : Thread nD τ) (bufs \ arrs (F := F)) (W₁ m c) ∗ emp) ∗ Tk m c ∗ ∃ Wd, owes (c : Thread nD τ) (0 + O₀ c) Wd)
  rw [StableHlo.held_sub_split (c.tc : Thread nD τ) (arrs_sub (F := F)) (W₁ m c), zero_add]
  unfold R₀
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) bufs (W₂ m c) ∗ R₁ c) := by
  show iprop(StableHlo.held (c.tc : Thread nD τ) (arrs (F := F)) (W₂ m c) ∗ (∃ r, prngReg c r)
    ∗ (StableHlo.held (c.tc : Thread nD τ) (bufs \ arrs (F := F)) (W₂ m c) ∗ emp) ∗ Yk c ∗ ∃ Wd, owes (c : Thread nD τ) (0 : CellTallies nD τ sig Unit) Wd) ⊢ _
  rw [StableHlo.held_sub_split (c.tc : Thread nD τ) (arrs_sub (F := F)) (W₂ m c)]
  unfold R₁ Yk
  iintro ⟨Ha, -, ⟨Hr, -⟩, Hb, HO⟩
  isplitl [Ha Hr]
  · isplitl [Ha]; · iexact Ha
    iexact Hr
  isplitl [Hb]; · iexact Hb
  iexact HO

def segs : List (Pipeline.Seg (pcfgs (F := F)) adm (pdats m) () defs₀ 𝒱₀ L lv) := [.host (seg0 m), .region (reg m), .host (seg1 m)]

theorem main_is (c : Dev nD) : main (F := F) c = Pipeline.Seg.run (segs m) :=
  main_segs adm (pdats m) () 𝒱₀ L lv (seg0 m) (seg1 m) (reg m) rfl rfl c

end Cert.KernelIdeal.Talk
-- ==== Proof.Main.lean ====
/- From a memory with zero counters to the end of the program: the ghost state is allocated, dealt to the four devices, and
   every final state is read. -/
module

public import proofs.«01_k».proof.Proof.Launch

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Which cells there are, which tokens -/

theorem osem_inj : Function.Injective osem := by decide
theorem osem_ne_bar : ∀ k : Fin 2 × Fin 3, osem k ≠ .reg barS := by decide
theorem unscoped_is_bar : ∀ sm : SemLoc sig, sm.isScoped .tc = false → sm = .reg barS := by decide
theorem unscoped_cells (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

def barE : Dev nD ↪ GSem nD τ sig := ⟨barCell, fun _ _ h => congrArg (fun g : GSem nD τ sig => g.1.1) h⟩
def ownE : Dev nD × (Fin 2 × Fin 3) ↪ GSem nD τ sig :=
  ⟨fun p => ((p.1 : Thread nD τ), osem p.2), fun _ _ h =>
    Prod.ext (congrArg (fun g : GSem nD τ sig => g.1.1) h) (osem_inj (congrArg (fun g : GSem nD τ sig => g.2) h))⟩
abbrev barSet : Finset (GSem nD τ sig) := Finset.univ.map barE
abbrev ownSet : Finset (GSem nD τ sig) := Finset.univ.map ownE

/-- The duties of a device's own cells: three of its barrier's, one of each of the six others. -/
abbrev dutyAt : Fin 3 × Fin 3 → SemLoc sig × Fin 3
  | (0, k) => (.reg barS, k)
  | (1, k) => (.dma (recvS k), 0)
  | (2, k) => (.dma (sendS k), 0)
theorem dutyAt_inj : Function.Injective dutyAt := by decide
def dutyE : Dev nD × (Fin 3 × Fin 3) ↪ GSem nD τ sig × ℕ × Fin 3 :=
  ⟨fun p => (((p.1 : Thread nD τ), (dutyAt p.2).1), 0, (dutyAt p.2).2), fun _ _ h =>
    Prod.ext (congrArg (fun t : GSem nD τ sig × ℕ × Fin 3 => t.1.1.1) h)
      (dutyAt_inj (Prod.ext (congrArg (fun t : GSem nD τ sig × ℕ × Fin 3 => t.1.2) h) (congrArg (fun t : GSem nD τ sig × ℕ × Fin 3 => t.2.2) h)))⟩
def dutySet : Finset (GSem nD τ sig × ℕ × Fin 3) := Finset.univ.map dutyE

theorem apart : Disjoint (barSet : Finset (GSem nD τ sig)) ownSet := by
  rw [Finset.disjoint_left]
  intro g h₁ h₂
  obtain ⟨c, -, rfl⟩ := Finset.mem_map.mp h₁
  obtain ⟨p, -, h⟩ := Finset.mem_map.mp h₂
  exact osem_ne_bar p.2 (congrArg (fun g : GSem nD τ sig => g.2) h)

abbrev allCells : Finset (GSem nD τ sig) := barSet ∪ ownSet
theorem bar_in (c : Dev nD) : barCell c ∈ allCells := Finset.mem_union_left _ (Finset.mem_map_of_mem barE (Finset.mem_univ c))
theorem send_in (c : Dev nD) (k : Fin 3) : sendCell c k ∈ allCells :=
  Finset.mem_union_right _ (Finset.mem_map_of_mem ownE (Finset.mem_univ (c, ((0 : Fin 2), k))))
theorem recv_in (c : Dev nD) (k : Fin 3) : recvCell c k ∈ allCells :=
  Finset.mem_union_right _ (Finset.mem_map_of_mem ownE (Finset.mem_univ (c, ((1 : Fin 2), k))))

def u₀ : UU :=
  (initOf (Pipeline.cells (Pipeline.pin (pcfgs (F := F)) adm) cellOf_inj) (Pipeline.launchToks (Pipeline.pin (pcfgs (F := F)) adm) cellOf_inj),
    launchOf barSet ownSet dutySet)

/-- Something kept by device 0 alone. -/
def atZero (P : sProp 𝕄) (c : Dev nD) : sProp 𝕄 := if c = 0 then P else iprop(emp)
omit [FloatOps F] in
theorem all_atZero (P : sProp 𝕄) : bigSep Finset.univ (atZero P) = P := by
  rw [bigSep_univ_at _ (0 : Dev nD), bigSep_congr (s := Finset.univ.erase (0 : Dev nD)) (Ψ := fun _ => (BI.emp : sProp 𝕄))
    fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barSet ownSet dutySet)))

/-! ## The dealing -/

omit [FloatOps F] in
theorem unpair (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)
omit [FloatOps F] in
theorem paired (Φ Ψ : Dev nD → sProp 𝕄) : iprop(bigSep Finset.univ Φ ∗ bigSep Finset.univ Ψ) ⊢ (bigSep Finset.univ fun c => iprop(Φ c ∗ Ψ c)) :=
  Entails.of_eq (bigSep_sep' _ _ _).symm

/-- What all devices share: every cell's invariant, and that every barrier is at its first round. -/
def shared (κ : GSem nD τ sig → ℕ) : sProp 𝕄 :=
  iprop((bigSep allCells fun g => cellInv ER (Rd (ins m)) (κ g) g) ∗ bigSep barSet fun g => reached ER g 0)
instance shared_persistent (κ : GSem nD τ sig → ℕ) : BI.Persistent (shared m κ) := by unfold shared; infer_instance

theorem inv_of (κ : GSem nD τ sig → ℕ) {g : GSem nD τ sig} (hg : g ∈ allCells) :
    (bigSep allCells fun g => (cellInv ER (Rd (ins m)) (κ g) g : sProp 𝕄)) ⊢ cellInv ER (Rd (ins m)) (κ g) g := bigSep_elim hg
theorem first_of (c : Dev nD) : (bigSep barSet fun g => (reached ER g 0 : sProp 𝕄)) ⊢ reached ER (barCell c) 0 :=
  bigSep_elim (Finset.mem_map_of_mem barE (Finset.mem_univ c))

/-- What one device alone holds. -/
def alone (c : Dev nD) : sProp 𝕄 :=
  iprop(atPos ER (barCell c) 0 ∅ 0 ∗ (sep3 (fun k => openTok ER (sendCell c k)) ∗ sep3 (fun k => openTok ER (recvCell c k))) ∗ toks c)

theorem ghost_of (κ : GSem nD τ sig → ℕ) (c : Dev nD) : iprop(shared m κ ∗ alone c) ⊢ iprop(∃ K, ghost (ins m) K c) := by
  unfold shared alone ghost invs sep3
  beta_reduce
  iintro ⟨⟨#HI, #HR⟩, Hb, ⟨Hs, Hr⟩, Ht⟩
  iexists κ
  isplitr
  · isplitr; · iapply (inv_of m κ (bar_in c)); iexact HI
    isplitr
    · isplitr; · iapply (inv_of m κ (send_in c 0)); iexact HI
      isplitr; · iapply (inv_of m κ (send_in c 1)); iexact HI
      iapply (inv_of m κ (send_in c 2)); iexact HI
    isplitr
    · isplitr; · iapply (inv_of m κ (recv_in c 0)); iexact HI
      isplitr; · iapply (inv_of m κ (recv_in c 1)); iexact HI
      iapply (inv_of m κ (recv_in c 2)); iexact HI
    isplitr
    · isplitr; · iapply (inv_of m κ (bar_in (pr 0 c))); iexact HI
      isplitr; · iapply (inv_of m κ (bar_in (pr 1 c))); iexact HI
      iapply (inv_of m κ (bar_in (pr 2 c))); iexact HI
    isplitr; · iapply (inv_of m κ (recv_in (pr 0 c) 0)); iexact HI
    isplitr; · iapply (inv_of m κ (recv_in (pr 1 c) 1)); iexact HI
    iapply (inv_of m κ (recv_in (pr 2 c) 2)); iexact HI
  isplitl [Hb]; · iexact Hb
  isplitl [Hs]; · iexact Hs
  isplitl [Hr]; · iexact Hr
  isplitr
  · isplitr; · iapply (first_of (F := F) (pr 0 c)); iexact HR
    isplitr; · iapply (first_of (F := F) (pr 1 c)); iexact HR
    iapply (first_of (F := F) (pr 2 c)); iexact HR
  iexact Ht

set_option backward.proofsInPublic true in
/-- A barrier duty is paid by the device at the opposite distance; a landing by the sender. -/
def barTurn : Dev nD × Fin 3 ≃ Dev nD × Fin 3 where
  toFun p := (pr p.2 p.1, p.2.rev)
  invFun p := (pr p.2 p.1, p.2.rev)
  left_inv p := by revert p; decide
  right_inv p := by revert p; decide
set_option backward.proofsInPublic true in
def recvTurn : Dev nD × Fin 3 ≃ Dev nD × Fin 3 where
  toFun p := (pr p.2 p.1, p.2)
  invFun p := (pr p.2.rev p.1, p.2)
  left_inv p := by revert p; decide
  right_inv p := by revert p; decide

omit [FloatOps F] in
theorem turned (e : Dev nD × Fin 3 ≃ Dev nD × Fin 3) (Φ : Dev nD × Fin 3 → sProp 𝕄) :
    (bigSep Finset.univ fun c : Dev nD => sep3 fun k => Φ (c, k)) = bigSep Finset.univ fun c : Dev nD => sep3 fun k => Φ (e (c, k)) := by
  have h (Ψ : Dev nD × Fin 3 → sProp 𝕄) : (bigSep Finset.univ fun c : Dev nD => sep3 fun k => Ψ (c, k)) = bigSep Finset.univ Ψ := by
    rw [bigSep_univ_prod]; exact bigSep_congr fun c _ => (bigSep_fin3 _).symm
  rw [h Φ, bigSep_univ_equiv e Φ, ← h fun p => Φ (e p)]

theorem toks_dealt : bigSep dutySet (fun x => (dutyTok ER x.1 x.2.1 x.2.2 : sProp 𝕄)) = bigSep Finset.univ fun c : Dev nD => toks c := by
  unfold dutySet toks
  have hb : (bigSep Finset.univ fun c : Dev nD => sep3 fun k => (dutyTok ER (barCell (pr k c)) 0 k.rev : sProp 𝕄))
      = bigSep Finset.univ fun c : Dev nD => sep3 fun k => dutyTok ER (barCell c) 0 k :=
    (turned barTurn (fun p => (dutyTok ER (barCell p.1) 0 p.2 : sProp 𝕄))).symm
  have hr : (bigSep Finset.univ fun c : Dev nD => sep3 fun k => (dutyTok ER (recvCell (pr k c) k) 0 0 : sProp 𝕄))
      = bigSep Finset.univ fun c : Dev nD => sep3 fun k => dutyTok ER (recvCell c k) 0 0 :=
    (turned recvTurn (fun p => (dutyTok ER (recvCell p.1 p.2) 0 0 : sProp 𝕄))).symm
  rw [bigSep_map, bigSep_univ_prod, bigSep_sep', bigSep_sep', hb, hr, ← bigSep_sep', ← bigSep_sep']
  exact bigSep_congr fun c _ => by
    simp only [bigSep_univ_prod, bigSep_fin3]; rfl

/-! ## What is owed to each cell at launch -/

theorem reg_ne_dma (c d : Dev nD) (k : Fin 3) : barCell c ≠ recvCell d k := fun h => by
  have : (SemLoc.reg barS : SemLoc sig) = .dma (recvS k) := congrArg (fun g : GSem nD τ sig => g.2) h
  exact absurd this (by simp)
theorem bar_eq_iff (c d : Dev nD) : barCell c = barCell d ↔ c = d :=
  ⟨fun h => congrArg (fun g : GSem nD τ sig => g.1.1) h, fun h => h ▸ rfl⟩
theorem recvS_inj (j k : Fin 3) : (SemLoc.dma (recvS j) : SemLoc sig) = .dma (recvS k) ↔ j = k := by revert j k; decide
theorem recv_eq_iff (c d : Dev nD) (j k : Fin 3) : recvCell c j = recvCell d k ↔ c = d ∧ j = k :=
  ⟨fun h => ⟨congrArg (fun g : GSem nD τ sig => g.1.1) h, (recvS_inj j k).mp (congrArg (fun g : GSem nD τ sig => g.2) h)⟩,
    fun ⟨h₁, h₂⟩ => by rw [h₁, h₂]⟩

theorem due_bar (c : Dev nD) : (∑ d : Dev nD, O₀ d (barCell c) ()) = 3 := by
  have h (d : Dev nD) : O₀ d (barCell c) () = ((if c = pr 2 d then 1 else 0) + (if c = pr 1 d then 1 else 0)) + (if c = pr 0 d then 1 else 0) := by
    unfold O₀ O₁ oR oB
    simp only [Pi.add_apply, Finsupp.add_apply, tallyAt_apply, reg_ne_dma, bar_eq_iff, false_and, if_false, and_true, Pi.zero_apply,
      Finsupp.zero_apply, Nat.zero_add, Nat.add_zero]
  rw [Finset.sum_congr rfl fun d _ => h d]
  clear h; revert c; decide

theorem due_recv (c : Dev nD) (k : Fin 3) : (∑ d : Dev nD, O₀ d (recvCell c k) ()) = N := by
  have hp : ∀ (d : Dev nD), c = pr k d ↔ d = pr k.rev c := by revert c k; decide
  have h (d : Dev nD) : O₀ d (recvCell c k) () = if d = pr k.rev c then N else 0 := by
    rw [← if_congr (hp d) rfl rfl]
    unfold O₀ O₁ oR oB
    simp only [Pi.add_apply, Finsupp.add_apply, tallyAt_apply, (reg_ne_dma _ _ _).symm, recv_eq_iff, false_and, if_false, and_true, Pi.zero_apply,
      Finsupp.zero_apply, Nat.zero_add, Nat.add_zero]
    revert k; intro k _; fin_cases k <;> simp
  rw [Finset.sum_congr rfl fun d _ => h d, Finset.sum_ite_eq' Finset.univ (pr k.rev c) fun _ => N, if_pos (Finset.mem_univ _)]

theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  rw [Pipeline.launchCredit_owing, Finsupp.single_eq_same]; exact due_bar c
theorem credit_recv (c : Dev nD) (k : Fin 3) :
    tallyOn (recvCell c k) (launchCredit (Pipeline.owing O₀) 0 (recvCell c k)) = (tallyAt (recvCell c k) () N : CellTallies nD τ sig Unit) := by
  unfold tallyAt
  refine congrArg _ (Finsupp.ext fun u => ?_)
  rw [Pipeline.launchCredit_owing, Finsupp.single_eq_same]; exact due_recv c k

theorem creds_of (c : Dev nD) : (Pipeline.launchCred O₀ c : sProp 𝕄) ⊢ creds c := by
  unfold Pipeline.launchCred creds sep3
  have n (j k : Fin 3) (h : j ≠ k) : (SemLoc.dma (recvS j) : SemLoc sig) ≠ .dma (recvS k) := fun e => h ((recvS_inj j k).mp e)
  rw [bigSep_univ_at _ (SemLoc.reg barS), credit_bar,
    bigSep_erase (s := Finset.univ.erase (SemLoc.reg barS)) (i := SemLoc.dma (recvS 0)) (Finset.mem_erase.mpr ⟨by simp, Finset.mem_univ _⟩), credit_recv,
    bigSep_erase (s := (Finset.univ.erase (SemLoc.reg barS)).erase (SemLoc.dma (recvS 0))) (i := SemLoc.dma (recvS 1))
      (Finset.mem_erase.mpr ⟨n 1 0 (by decide), Finset.mem_erase.mpr ⟨by simp, Finset.mem_univ _⟩⟩), credit_recv]
  show _ ⊢ iprop(_ ∗ _ ∗ _ ∗ cred (tallyAt (recvCell c 2) () N))
  rw [← credit_recv c 2]
  exact sep_mono_right (sep_mono_right (sep_mono_right (bigSep_elim
    (Finset.mem_erase.mpr ⟨n 2 1 (by decide), Finset.mem_erase.mpr ⟨n 2 0 (by decide), Finset.mem_erase.mpr ⟨by simp, Finset.mem_univ _⟩⟩⟩))))

/-! ## The run -/

abbrev T₀ (c : Dev nD) : sProp 𝕄 := iprop(StableHlo.held (c : Thread nD τ) bufs (fun b => m (c, b)) ∗ R₀ m c)
abbrev Tₙ (c : Dev nD) : sProp 𝕄 := iprop(StableHlo.held (c : Thread nD τ) bufs (W₃ m c) ∗ semVal (barCell c) 0)

/-- What a device has at launch besides the exchange's ghost state. -/
def rest (c : Dev nD) : sProp 𝕄 :=
  iprop(StableHlo.held (c : Thread nD τ) bufs (fun b => m (c, b)) ∗ creds c ∗ owes (c : Thread nD τ) (O₀ c) ∅ ∗ ∃ r, prngReg c r)

theorem T₀_of (κ : GSem nD τ sig → ℕ) (c : Dev nD) : iprop(shared m κ ∗ (alone c ∗ rest m c)) ⊢ T₀ m c := by
  unfold rest T₀ R₀ Tk
  iintro ⟨#HS, Ha, Hh, Hc, HO, Hp⟩
  isplitl [Hh]; · iexact Hh
  isplitl [Ha Hc]
  · isplitl [Ha]
    · iapply (ghost_of m κ c)
      isplitr; · iexact HS
      iexact Ha
    iexact Hc
  isplitl [Hp]; · iexact Hp
  iexists ∅; iexact HO

theorem bars_of : bigSep Finset.univ (fun c : Dev nD => (semVal (barCell c) 0 : sProp 𝕄)) ⊢ bigSep barSet (fun g => (semVal g 0 : sProp 𝕄)) :=
  Entails.of_eq (bigSep_map (s := Finset.univ) barE (Φ := fun g : GSem nD τ sig => (semVal g 0 : sProp 𝕄))).symm
theorem pos_of : bigSep barSet (fun g => (atPos ER g 0 ∅ 0 : sProp 𝕄)) ⊢ bigSep Finset.univ (fun c : Dev nD => (atPos ER (barCell c) 0 ∅ 0 : sProp 𝕄)) :=
  Entails.of_eq (bigSep_map (s := Finset.univ) barE (Φ := fun g : GSem nD τ sig => (atPos ER g 0 ∅ 0 : sProp 𝕄)))
theorem opens_of : bigSep ownSet (fun g => (openTok ER g : sProp 𝕄))
    ⊢ bigSep Finset.univ (fun c : Dev nD => iprop(sep3 (fun k => openTok ER (sendCell c k)) ∗ sep3 (fun k => openTok ER (recvCell c k)))) :=
  Entails.of_eq (by
    rw [bigSep_map, bigSep_univ_prod]
    exact bigSep_congr fun c _ => by rw [bigSep_univ_prod, BI.bigSep_fin_two, bigSep_fin3, bigSep_fin3]; rfl)

theorem core_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show unscopedBufs c (fun b => m ((c : Thread nD τ).loc b)) = StableHlo.held (c : Thread nD τ) bufs (fun b => m (c, b)) from
    Pipeline.unscopedBufs_held c (fun b => m (c, b)), unscoped_cells]
  unfold rest
  iintro ⟨Hh, Hs, HO, Hc, Hp, HG⟩
  isplitr [Hs HG]
  · isplitl [Hh]; · iexact Hh
    isplitl [Hc]; · iapply (creds_of (F := F) c) $$ Hc
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => core_of m ρ c) $$ H
  ihave H := (unpair _ _) $$ H; icases H with ⟨HB, H⟩
  ihave H := (unpair _ _) $$ H; icases H with ⟨Hv, HG⟩
  ihave Hu := (show bigSep Finset.univ (G (F := F)) ⊢ BI.own (ER (launchOf barSet ownSet dutySet)) from Entails.of_eq (all_atZero (F := F) _)) $$ HG
  imod (Rounds.fund_launch ER (Rd (ins m)) apart (fun g _ h => h) dutySet) $$ [Hv Hu] with ⟨%κ, -, #HI, #HR, Hat, Ho, Ht⟩
  · isplitl [Hv]
    · iapply (bars_of (F := F)) $$ Hv
    iexact Hu
  imodintro
  iapply (bigSep_with_persistent (R := shared m κ) (Φ := fun c => iprop(alone c ∗ rest m c)) fun c _ => T₀_of m κ c)
  isplitr
  · unfold shared
    isplitr; · iexact HI
    iexact HR
  iapply (paired _ _)
  isplitr [HB]
  · unfold alone
    iapply (paired _ _); isplitl [Hat]; · iapply (pos_of (F := F)) $$ Hat
    iapply (paired _ _); isplitl [Ho]; · iapply (opens_of (F := F)) $$ Ho
    iapply (Entails.of_eq (toks_dealt (F := F))) $$ Ht
  iexact HB

/-- Buffers held at a valuation have its contents. -/
theorem held_read (c : Dev nD) (W : Valuation τ sig (Elt F)) (s' : Phys nD τ sig (Elt F)) :
    iprop(StableHlo.held (c : Thread nD τ) bufs W ∗ SI s') ⊢ (<pers> ⌜∀ b ∈ bufs, s'.mem.mem (c, b) = W b⌝ : sProp 𝕄) :=
  (sep_comm.1.trans (SI_pointsTo_bufs_agree (qs := fun _ => fullShare) bufs)).trans BI.persistently_pure.2

set_option backward.isDefEq.respectTransparency.types false in
/-- Every execution ends, with the buffers at the last stage's contents and every counter at zero. -/
theorem run_stages : θ_run defs (onTc (τ := τ) (main (F := F))) ⟨m, fun _ => 0, ρ⟩
    (fun r => (∀ c : Dev nD, ∀ b ∈ bufs, r.2.mem (c, b) = W₃ m c b) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [all_atZero]; iexact HX)
    (T₀ := T₀ m) (Tₙ := Tₙ m)
    (hch := by
      refine ⟨fun c => .rfl, fun c => reg_pre m c, fun c => reg_post m c, fun c => ?_⟩
      show iprop(StableHlo.held (c : Thread nD τ) bufs (W₃ m c) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      iexact HO)
    (hinit := init m ρ)
    (QY := fun c s => (∀ b ∈ bufs, s.mem (c, b) = W₃ m c b) ∧ s.sem (barCell c) = 0)
    (hfin := fun c s' => by
      dsimp only [Tₙ]
      iintro ⟨⟨Hh, Hb⟩, HSI⟩
      ihave %hh := (held_read c (W₃ m c) s') $$ [Hh HSI]
      · isplitl [Hh] <;> iassumption
      icombine HSI Hb gives %hb
      imodintro
      isplitr
      · ipureintro
        exact ⟨hh, by simpa using hb⟩
      iexact HSI)
    (hQ := fun s h hs => ⟨fun c => (h c).1,
      sem_eq_zero hs fun c sm hsm => by
        obtain rfl := unscoped_is_bar sm hsm
        exact (h c).2⟩)

/-! ## What the stages are -/

theorem kept (c : Dev nD) (b : Ref sig .tc) (h : b ≠ main_v1 ∧ b ≠ main_v2 ∧ b ≠ main_v3 ∧ b ≠ main_v4 ∧ b ≠ main_v5 ∧ b ≠ main_v6) :
    W₃ m c (Proc.devRef .tc b) = m ((c : Thread nD τ).loc b) := by
  obtain ⟨h1, h2, h3, h4, h5, h6⟩ := h
  unfold W₃
  rw [StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h4, StableHlo.devRef_ne_of_ne h5, StableHlo.devRef_ne_of_ne h6⟩))]
  unfold W₂
  rw [Function.update_of_ne (StableHlo.devRef_ne_of_ne h3)]
  exact StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h1, StableHlo.devRef_ne_of_ne h2⟩))

theorem in_bufs (b : Ref sig .tc) (h : b.isScoped = false) : Proc.devRef .tc b ∈ bufs :=
  Finset.mem_filter.mpr ⟨StableHlo.devRef_mem_tcRefs _, fun h' => Bool.false_ne_true (h.symm.trans h')⟩

/-- Every execution ends with the arguments as launched, the result at the last stage's contents, every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v6) = W₃ m c (Proc.devRef .tc main_v6)) ∧ r.2.sem = fun _ => 0) :=
  (θ_run defs _ _).mono (fun r h => ⟨fun c =>
    ⟨⟨(h.1 c _ (in_bufs main_arg0 (by decide))).trans (kept m c _ (by decide)),
      (h.1 c _ (in_bufs main_arg1 (by decide))).trans (kept m c _ (by decide)),
      (h.1 c _ (in_bufs main_arg2 (by decide))).trans (kept m c _ (by decide)),
      (h.1 c _ (in_bufs main_arg3 (by decide))).trans (kept m c _ (by decide)),
      (h.1 c _ (in_bufs main_arg4 (by decide))).trans (kept m c _ (by decide))⟩,
     h.1 c _ (in_bufs main_v6 (by decide))⟩, h.2⟩) (run_stages m ρ)

end Cert.KernelIdeal.Talk
-- ==== Proof.Frames.lean ====
/- The frames: each program runs, keeps its arguments and leaves every counter at zero. -/
module

public import proofs.«01_k».proof.Defs
public import proofs.«01_k».proof.Proof.Gen.Kernel
public import proofs.«01_k».proof.Proof.Gen.ReferenceIdeal.Run
public import proofs.«01_k».proof.Proof.Main

@[expose] public section

set_option maxRecDepth 16384

noncomputable section

namespace Cert.Proof

open Idealize.ShloMosaic Idealize.SL.Sem

theorem kept_quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Talk.run_main m ρ)

/-- The kernel's table of bodies and its idealization's are one table: at the only label, one body. -/
theorem bodies_same {F : FTy → Type} [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l a
  match l, a with
  | 0, (t, s) => rfl

theorem tables_same {F : FTy → Type} [FloatOps F] : @Cert.Kernel.defs F _ Cert.Kernel.Gen.facts = @Cert.KernelIdeal.defs F _ Cert.KernelIdeal.Gen.facts :=
  congrArg (Pipeline.defs (Cert.Kernel.pcfgs (F := F))) bodies_same

/-- The kernel and its idealization have the same text, so one run serves both. -/
theorem frame_kernel : Cert.quiescent_Kernel (hKernel := Cert.Kernel.Gen.facts) := fun m ρ _ => by
  have h := kept_quiet (F := Bits) m ρ
  rw [← tables_same] at h
  exact h

theorem frame_kernelIdeal : Cert.quiescent_KernelIdeal (hKernelIdeal := Cert.KernelIdeal.Gen.facts) := fun m ρ _ => kept_quiet (F := Ideal) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Blocks.lean ====
/- What a device packs, read at an index over the extended reals: per sequence and head the greatest score of its tokens,
   the sum of their weights and the weighted sum of their values. -/
module

public import proofs.«01_k».proof.Proof.Body
public import Idealize.ShloMosaic.Lib.Pointwise

@[expose] public section

set_option maxRecDepth 16384

noncomputable section

namespace Cert.KernelIdeal.Talk

open Idealize.ShloMosaic
open Cert.KernelIdeal.Gen

section Plain
variable (c : FVec Ideal S8x1024 .f32) (g : IVec S8x1024 1) (q : FVec Ideal S8x8x64 .f32) (K V : FVec Ideal S64x16x8x64 .f32)

/-- The score of query `b` in head `h` against token `t`, or the filler where the token is not used. -/
def tokS (b h : Fin 8) (t : Fin 1024) : EReal :=
  Scalar.select (g (ix2 b t))
    ((∑ e : Fin 64, (q (ix3 b h e) : EReal) * K (ix4 ⟨t.val / 16, by omega⟩ ⟨t.val % 16, by omega⟩ h e)) * Ideal.ofBits FTy.f32 0x3E000000#32)
    (Ideal.ofBits FTy.f32 0xF149F2CA#32)
/-- The greatest score. -/
def rowM (b h : Fin 8) : EReal := Finset.fold max (Ideal.ofBits FTy.f32 0xFF800000#32) (fun t => tokS g q K b h t) Finset.univ
/-- A token's weight: its count times the exponential of its score less the greatest. -/
def tokP (b h : Fin 8) (t : Fin 1024) : EReal := c (ix2 b t) * Ideal.exp (tokS g q K b h t - rowM g q K b h)
/-- The sum of the weights. -/
def rowL (b h : Fin 8) : EReal := ∑ t : Fin 1024, tokP c g q K b h t
/-- The weighted sum of the values. -/
def rowO (b h : Fin 8) (e : Fin 64) : EReal := ∑ t : Fin 1024, tokP c g q K b h t * V (ix4 ⟨t.val / 16, by omega⟩ ⟨t.val % 16, by omega⟩ h e)

theorem headM0 (b : Fin 8) : (k0_pay9 g (k0_pay4 K) q : FVec Ideal S8x1 .f32) (ix2 b 0) = rowM g q K b 0 := by
  unfold rowM tokS; unfold_payloads; pointwise []
theorem headL0 (b : Fin 8) : (k0_pay11 c g (k0_pay4 K) q : FVec Ideal S8x1 .f32) (ix2 b 0) = rowL c g q K b 0 := by
  unfold rowL tokP rowM tokS; unfold_payloads; pointwise []
theorem headO0 (b : Fin 8) (e : Fin 64) : (k0_pay12 c g (k0_pay4 K) V q : FVec Ideal S8x64 .f32) (ix2 b e) = rowO c g q K V b 0 e := by
  unfold rowO tokP rowM tokS; unfold_payloads; pointwise []
theorem headM1 (b : Fin 8) : (k0_pay14 g (k0_pay4 K) q : FVec Ideal S8x1 .f32) (ix2 b 0) = rowM g q K b 1 := by
  unfold rowM tokS; unfold_payloads; pointwise []
theorem headL1 (b : Fin 8) : (k0_pay17 (k0_pay16 c g (k0_pay4 K) q) : FVec Ideal S8x1 .f32) (ix2 b 0) = rowL c g q K b 1 := by
  unfold rowL tokP rowM tokS; unfold_payloads; pointwise []
theorem headO1 (b : Fin 8) (e : Fin 64) : (k0_pay18 (k0_pay6 V) (k0_pay15 c g (k0_pay4 K) q) : FVec Ideal S8x64 .f32) (ix2 b e) = rowO c g q K V b 1 e := by
  unfold rowO tokP rowM tokS; unfold_payloads; pointwise []
theorem headM2 (b : Fin 8) : (k0_pay20 g (k0_pay5 (k0_pay4 K)) (k0_pay7 q) : FVec Ideal S8x1 .f32) (ix2 b 0) = rowM g q K b 2 := by
  unfold rowM tokS; unfold_payloads; pointwise []
theorem headL2 (b : Fin 8) : (k0_pay22 c g (k0_pay5 (k0_pay4 K)) (k0_pay7 q) : FVec Ideal S8x1 .f32) (ix2 b 0) = rowL c g q K b 2 := by
  unfold rowL tokP rowM tokS; unfold_payloads; pointwise []
theorem headO2 (b : Fin 8) (e : Fin 64) : (k0_pay23 c g (k0_pay5 (k0_pay4 K)) (k0_pay6 V) (k0_pay7 q) : FVec Ideal S8x64 .f32) (ix2 b e) = rowO c g q K V b 2 e := by
  unfold rowO tokP rowM tokS; unfold_payloads; pointwise []
theorem headM3 (b : Fin 8) : (k0_pay25 g (k0_pay5 (k0_pay4 K)) (k0_pay7 q) : FVec Ideal S8x1 .f32) (ix2 b 0) = rowM g q K b 3 := by
  unfold rowM tokS; unfold_payloads; pointwise []
theorem headL3 (b : Fin 8) : (k0_pay27 c g (k0_pay5 (k0_pay4 K)) (k0_pay7 q) : FVec Ideal S8x1 .f32) (ix2 b 0) = rowL c g q K b 3 := by
  unfold rowL tokP rowM tokS; unfold_payloads; pointwise []
theorem headO3 (b : Fin 8) (e : Fin 64) : (k0_pay28 c g (k0_pay5 (k0_pay4 K)) (k0_pay6 V) (k0_pay7 q) : FVec Ideal S8x64 .f32) (ix2 b e) = rowO c g q K V b 3 e := by
  unfold rowO tokP rowM tokS; unfold_payloads; pointwise []
theorem headM4 (b : Fin 8) : (k0_pay32 g (k0_pay29 (k0_pay7 q)) (k0_pay30 (k0_pay5 (k0_pay4 K))) : FVec Ideal S8x1 .f32) (ix2 b 0) = rowM g q K b 4 := by
  unfold rowM tokS; unfold_payloads; pointwise []
theorem headL4 (b : Fin 8) : (k0_pay34 c g (k0_pay29 (k0_pay7 q)) (k0_pay30 (k0_pay5 (k0_pay4 K))) : FVec Ideal S8x1 .f32) (ix2 b 0) = rowL c g q K b 4 := by
  unfold rowL tokP rowM tokS; unfold_payloads; pointwise []
theorem headO4 (b : Fin 8) (e : Fin 64) : (k0_pay35 c g (k0_pay6 V) (k0_pay29 (k0_pay7 q)) (k0_pay30 (k0_pay5 (k0_pay4 K))) : FVec Ideal S8x64 .f32) (ix2 b e) = rowO c g q K V b 4 e := by
  unfold rowO tokP rowM tokS; unfold_payloads; pointwise []
theorem headM5 (b : Fin 8) : (k0_pay37 g (k0_pay5 (k0_pay4 K)) (k0_pay7 q) : FVec Ideal S8x1 .f32) (ix2 b 0) = rowM g q K b 5 := by
  unfold rowM tokS; unfold_payloads; pointwise []
theorem headL5 (b : Fin 8) : (k0_pay39 c g (k0_pay5 (k0_pay4 K)) (k0_pay7 q) : FVec Ideal S8x1 .f32) (ix2 b 0) = rowL c g q K b 5 := by
  unfold rowL tokP rowM tokS; unfold_payloads; pointwise []
theorem headO5 (b : Fin 8) (e : Fin 64) : (k0_pay40 c g (k0_pay5 (k0_pay4 K)) (k0_pay6 V) (k0_pay7 q) : FVec Ideal S8x64 .f32) (ix2 b e) = rowO c g q K V b 5 e := by
  unfold rowO tokP rowM tokS; unfold_payloads; pointwise []
theorem headM6 (b : Fin 8) : (k0_pay44 g (k0_pay41 (k0_pay5 (k0_pay4 K)) (k0_pay7 q)) k0_pay42 : FVec Ideal S8x1 .f32) (ix2 b 0) = rowM g q K b 6 := by
  unfold rowM tokS; unfold_payloads; pointwise []
theorem headL6 (b : Fin 8) : (shapeCast S8x1 (multiReduction .add [1] S8 (k0_pay45 c g (k0_pay41 (k0_pay5 (k0_pay4 K)) (k0_pay7 q)) k0_pay42) 0x00000000#32 reduces_S8x1024_S8 (.inl rfl) rfl) shapeCasts_S8_S8x1 : FVec Ideal S8x1 .f32) (ix2 b 0) = rowL c g q K b 6 := by
  unfold rowL tokP rowM tokS; unfold_payloads; pointwise []
theorem headO6 (b : Fin 8) (e : Fin 64) : (matmul (F := Ideal) dot_S8x1024_S1024x64_S8x64_1_0_0_1_n_n none (k0_pay45 c g (k0_pay41 (k0_pay5 (k0_pay4 K)) (k0_pay7 q)) k0_pay42) (shapeCast S1024x64 (extractStridedSlice S1024x1x64 ![0, 6, 0] (k0_pay6 V) slices_S1024x8x64_o0_6_0_S1024x1x64) shapeCasts_S1024x1x64_S1024x64) (constant S8x64 .f32 0x00000000#32) : FVec Ideal S8x64 .f32) (ix2 b e) = rowO c g q K V b 6 e := by
  unfold rowO tokP rowM tokS; unfold_payloads; pointwise []
theorem headM7 (b : Fin 8) : (k0_pay47 g (k0_pay5 (k0_pay4 K)) (k0_pay7 q) : FVec Ideal S8x1 .f32) (ix2 b 0) = rowM g q K b 7 := by
  unfold rowM tokS; unfold_payloads; pointwise []
theorem headL7 (b : Fin 8) : (shapeCast S8x1 (multiReduction .add [1] S8 (k0_pay48 c g (k0_pay5 (k0_pay4 K)) (k0_pay7 q)) 0x00000000#32 reduces_S8x1024_S8 (.inl rfl) rfl) shapeCasts_S8_S8x1 : FVec Ideal S8x1 .f32) (ix2 b 0) = rowL c g q K b 7 := by
  unfold rowL tokP rowM tokS; unfold_payloads; pointwise []
theorem headO7 (b : Fin 8) (e : Fin 64) : (matmul (F := Ideal) dot_S8x1024_S1024x64_S8x64_1_0_0_1_n_n none (k0_pay48 c g (k0_pay5 (k0_pay4 K)) (k0_pay7 q)) (shapeCast S1024x64 (extractStridedSlice S1024x1x64 ![0, 7, 0] (k0_pay6 V) slices_S1024x8x64_o0_7_0_S1024x1x64) shapeCasts_S1024x1x64_S1024x64) (constant S8x64 .f32 0x00000000#32) : FVec Ideal S8x64 .f32) (ix2 b e) = rowO c g q K V b 7 e := by
  unfold rowO tokP rowM tokS; unfold_payloads; pointwise []
end Plain

theorem cat_wide (v0 v1 v2 v3 v4 v5 v6 v7 : FVec Ideal S8x64 .f32) (h b : Fin 8) (e : Fin 64) :
    shapeCast S1x64x64 (concatenate S64x64 0 [⟨S8x64, v0⟩, ⟨S8x64, v1⟩, ⟨S8x64, v2⟩, ⟨S8x64, v3⟩, ⟨S8x64, v4⟩, ⟨S8x64, v5⟩, ⟨S8x64, v6⟩, ⟨S8x64, v7⟩] concatenates_S8x64_S8x64_S8x64_S8x64_S8x64_S8x64_S8x64_S8x64_S64x64_d0) shapeCasts_S64x64_S1x64x64
      (ix3 0 ⟨h.val * 8 + b.val, by omega⟩ e) = (![v0, v1, v2, v3, v4, v5, v6, v7] h) (ix2 b e) := by
  pointwise []
  obtain ⟨k, hk⟩ := h
  interval_cases k
  · dsimp only
    rw [dif_pos (show 0 * 8 + b.val < 8 by omega)]
    exact congrArg v0 (congrArg (ix2 · e) (Fin.ext (by dsimp only; omega)))
  · dsimp only
    rw [dif_neg (show ¬ 1 * 8 + b.val < 8 by omega)]
    rw [dif_pos (show 1 * 8 + b.val - 8 < 8 by omega)]
    exact congrArg v1 (congrArg (ix2 · e) (Fin.ext (by dsimp only; omega)))
  · dsimp only
    rw [dif_neg (show ¬ 2 * 8 + b.val < 8 by omega)]
    rw [dif_neg (show ¬ 2 * 8 + b.val - 8 < 8 by omega)]
    rw [dif_pos (show 2 * 8 + b.val - 8 - 8 < 8 by omega)]
    exact congrArg v2 (congrArg (ix2 · e) (Fin.ext (by dsimp only; omega)))
  · dsimp only
    rw [dif_neg (show ¬ 3 * 8 + b.val < 8 by omega)]
    rw [dif_neg (show ¬ 3 * 8 + b.val - 8 < 8 by omega)]
    rw [dif_neg (show ¬ 3 * 8 + b.val - 8 - 8 < 8 by omega)]
    rw [dif_pos (show 3 * 8 + b.val - 8 - 8 - 8 < 8 by omega)]
    exact congrArg v3 (congrArg (ix2 · e) (Fin.ext (by dsimp only; omega)))
  · dsimp only
    rw [dif_neg (show ¬ 4 * 8 + b.val < 8 by omega)]
    rw [dif_neg (show ¬ 4 * 8 + b.val - 8 < 8 by omega)]
    rw [dif_neg (show ¬ 4 * 8 + b.val - 8 - 8 < 8 by omega)]
    rw [dif_neg (show ¬ 4 * 8 + b.val - 8 - 8 - 8 < 8 by omega)]
    rw [dif_pos (show 4 * 8 + b.val - 8 - 8 - 8 - 8 < 8 by omega)]
    exact congrArg v4 (congrArg (ix2 · e) (Fin.ext (by dsimp only; omega)))
  · dsimp only
    rw [dif_neg (show ¬ 5 * 8 + b.val < 8 by omega)]
    rw [dif_neg (show ¬ 5 * 8 + b.val - 8 < 8 by omega)]
    rw [dif_neg (show ¬ 5 * 8 + b.val - 8 - 8 < 8 by omega)]
    rw [dif_neg (show ¬ 5 * 8 + b.val - 8 - 8 - 8 < 8 by omega)]
    rw [dif_neg (show ¬ 5 * 8 + b.val - 8 - 8 - 8 - 8 < 8 by omega)]
    rw [dif_pos (show 5 * 8 + b.val - 8 - 8 - 8 - 8 - 8 < 8 by omega)]
    exact congrArg v5 (congrArg (ix2 · e) (Fin.ext (by dsimp only; omega)))
  · dsimp only
    rw [dif_neg (show ¬ 6 * 8 + b.val < 8 by omega)]
    rw [dif_neg (show ¬ 6 * 8 + b.val - 8 < 8 by omega)]
    rw [dif_neg (show ¬ 6 * 8 + b.val - 8 - 8 < 8 by omega)]
    rw [dif_neg (show ¬ 6 * 8 + b.val - 8 - 8 - 8 < 8 by omega)]
    rw [dif_neg (show ¬ 6 * 8 + b.val - 8 - 8 - 8 - 8 < 8 by omega)]
    rw [dif_neg (show ¬ 6 * 8 + b.val - 8 - 8 - 8 - 8 - 8 < 8 by omega)]
    rw [dif_pos (show 6 * 8 + b.val - 8 - 8 - 8 - 8 - 8 - 8 < 8 by omega)]
    exact congrArg v6 (congrArg (ix2 · e) (Fin.ext (by dsimp only; omega)))
  · dsimp only
    rw [dif_neg (show ¬ 7 * 8 + b.val < 8 by omega)]
    rw [dif_neg (show ¬ 7 * 8 + b.val - 8 < 8 by omega)]
    rw [dif_neg (show ¬ 7 * 8 + b.val - 8 - 8 < 8 by omega)]
    rw [dif_neg (show ¬ 7 * 8 + b.val - 8 - 8 - 8 < 8 by omega)]
    rw [dif_neg (show ¬ 7 * 8 + b.val - 8 - 8 - 8 - 8 < 8 by omega)]
    rw [dif_neg (show ¬ 7 * 8 + b.val - 8 - 8 - 8 - 8 - 8 < 8 by omega)]
    rw [dif_neg (show ¬ 7 * 8 + b.val - 8 - 8 - 8 - 8 - 8 - 8 < 8 by omega)]
    exact congrArg v7 (congrArg (ix2 · e) (Fin.ext (by dsimp only; omega)))

theorem cat_thin (v0 v1 v2 v3 v4 v5 v6 v7 : FVec Ideal S8x1 .f32) (h b : Fin 8) :
    shapeCast S1x64x1 (concatenate S64x1 0 [⟨S8x1, v0⟩, ⟨S8x1, v1⟩, ⟨S8x1, v2⟩, ⟨S8x1, v3⟩, ⟨S8x1, v4⟩, ⟨S8x1, v5⟩, ⟨S8x1, v6⟩, ⟨S8x1, v7⟩] concatenates_S8x1_S8x1_S8x1_S8x1_S8x1_S8x1_S8x1_S8x1_S64x1_d0) shapeCasts_S64x1_S1x64x1
      (ix3 0 ⟨h.val * 8 + b.val, by omega⟩ 0) = (![v0, v1, v2, v3, v4, v5, v6, v7] h) (ix2 b 0) := by
  pointwise []
  obtain ⟨k, hk⟩ := h
  interval_cases k
  · dsimp only
    rw [dif_pos (show 0 * 8 + b.val < 8 by omega)]
    exact congrArg v0 (congrArg (ix2 · 0) (Fin.ext (by dsimp only; omega)))
  · dsimp only
    rw [dif_neg (show ¬ 1 * 8 + b.val < 8 by omega)]
    rw [dif_pos (show 1 * 8 + b.val - 8 < 8 by omega)]
    exact congrArg v1 (congrArg (ix2 · 0) (Fin.ext (by dsimp only; omega)))
  · dsimp only
    rw [dif_neg (show ¬ 2 * 8 + b.val < 8 by omega)]
    rw [dif_neg (show ¬ 2 * 8 + b.val - 8 < 8 by omega)]
    rw [dif_pos (show 2 * 8 + b.val - 8 - 8 < 8 by omega)]
    exact congrArg v2 (congrArg (ix2 · 0) (Fin.ext (by dsimp only; omega)))
  · dsimp only
    rw [dif_neg (show ¬ 3 * 8 + b.val < 8 by omega)]
    rw [dif_neg (show ¬ 3 * 8 + b.val - 8 < 8 by omega)]
    rw [dif_neg (show ¬ 3 * 8 + b.val - 8 - 8 < 8 by omega)]
    rw [dif_pos (show 3 * 8 + b.val - 8 - 8 - 8 < 8 by omega)]
    exact congrArg v3 (congrArg (ix2 · 0) (Fin.ext (by dsimp only; omega)))
  · dsimp only
    rw [dif_neg (show ¬ 4 * 8 + b.val < 8 by omega)]
    rw [dif_neg (show ¬ 4 * 8 + b.val - 8 < 8 by omega)]
    rw [dif_neg (show ¬ 4 * 8 + b.val - 8 - 8 < 8 by omega)]
    rw [dif_neg (show ¬ 4 * 8 + b.val - 8 - 8 - 8 < 8 by omega)]
    rw [dif_pos (show 4 * 8 + b.val - 8 - 8 - 8 - 8 < 8 by omega)]
    exact congrArg v4 (congrArg (ix2 · 0) (Fin.ext (by dsimp only; omega)))
  · dsimp only
    rw [dif_neg (show ¬ 5 * 8 + b.val < 8 by omega)]
    rw [dif_neg (show ¬ 5 * 8 + b.val - 8 < 8 by omega)]
    rw [dif_neg (show ¬ 5 * 8 + b.val - 8 - 8 < 8 by omega)]
    rw [dif_neg (show ¬ 5 * 8 + b.val - 8 - 8 - 8 < 8 by omega)]
    rw [dif_neg (show ¬ 5 * 8 + b.val - 8 - 8 - 8 - 8 < 8 by omega)]
    rw [dif_pos (show 5 * 8 + b.val - 8 - 8 - 8 - 8 - 8 < 8 by omega)]
    exact congrArg v5 (congrArg (ix2 · 0) (Fin.ext (by dsimp only; omega)))
  · dsimp only
    rw [dif_neg (show ¬ 6 * 8 + b.val < 8 by omega)]
    rw [dif_neg (show ¬ 6 * 8 + b.val - 8 < 8 by omega)]
    rw [dif_neg (show ¬ 6 * 8 + b.val - 8 - 8 < 8 by omega)]
    rw [dif_neg (show ¬ 6 * 8 + b.val - 8 - 8 - 8 < 8 by omega)]
    rw [dif_neg (show ¬ 6 * 8 + b.val - 8 - 8 - 8 - 8 < 8 by omega)]
    rw [dif_neg (show ¬ 6 * 8 + b.val - 8 - 8 - 8 - 8 - 8 < 8 by omega)]
    rw [dif_pos (show 6 * 8 + b.val - 8 - 8 - 8 - 8 - 8 - 8 < 8 by omega)]
    exact congrArg v6 (congrArg (ix2 · 0) (Fin.ext (by dsimp only; omega)))
  · dsimp only
    rw [dif_neg (show ¬ 7 * 8 + b.val < 8 by omega)]
    rw [dif_neg (show ¬ 7 * 8 + b.val - 8 < 8 by omega)]
    rw [dif_neg (show ¬ 7 * 8 + b.val - 8 - 8 < 8 by omega)]
    rw [dif_neg (show ¬ 7 * 8 + b.val - 8 - 8 - 8 < 8 by omega)]
    rw [dif_neg (show ¬ 7 * 8 + b.val - 8 - 8 - 8 - 8 < 8 by omega)]
    rw [dif_neg (show ¬ 7 * 8 + b.val - 8 - 8 - 8 - 8 - 8 < 8 by omega)]
    rw [dif_neg (show ¬ 7 * 8 + b.val - 8 - 8 - 8 - 8 - 8 - 8 < 8 by omega)]
    exact congrArg v7 (congrArg (ix2 · 0) (Fin.ext (by dsimp only; omega)))

section Packed
variable (d : Dev nD) (x : Ins Ideal) (h b : Fin 8)

theorem blkO_at (e : Fin 64) : blkO d x (ix3 0 ⟨h.val * 8 + b.val, by omega⟩ e) = rowO (cnt d x) (msk d x) x.q x.K x.V b h e := by
  unfold blkO k0_pay50
  refine (cat_wide _ _ _ _ _ _ _ _ h b e).trans ?_
  match h with
  | 0 => exact headO0 _ _ _ _ _ b e
  | 1 => exact headO1 _ _ _ _ _ b e
  | 2 => exact headO2 _ _ _ _ _ b e
  | 3 => exact headO3 _ _ _ _ _ b e
  | 4 => exact headO4 _ _ _ _ _ b e
  | 5 => exact headO5 _ _ _ _ _ b e
  | 6 => exact headO6 _ _ _ _ _ b e
  | 7 => exact headO7 _ _ _ _ _ b e

theorem blkM_at : blkM d x (ix3 0 ⟨h.val * 8 + b.val, by omega⟩ 0) = rowM (msk d x) x.q x.K b h := by
  unfold blkM k0_pay51
  refine (cat_thin _ _ _ _ _ _ _ _ h b).trans ?_
  match h with
  | 0 => exact headM0 _ _ _ b
  | 1 => exact headM1 _ _ _ b
  | 2 => exact headM2 _ _ _ b
  | 3 => exact headM3 _ _ _ b
  | 4 => exact headM4 _ _ _ b
  | 5 => exact headM5 _ _ _ b
  | 6 => exact headM6 _ _ _ b
  | 7 => exact headM7 _ _ _ b

theorem blkL_at : blkL d x (ix3 0 ⟨h.val * 8 + b.val, by omega⟩ 0) = rowL (cnt d x) (msk d x) x.q x.K b h := by
  unfold blkL k0_pay52 k0_pay49
  refine (cat_thin _ _ _ _ _ _ _ _ h b).trans ?_
  match h with
  | 0 => exact headL0 _ _ _ _ b
  | 1 => exact headL1 _ _ _ _ b
  | 2 => exact headL2 _ _ _ _ b
  | 3 => exact headL3 _ _ _ _ b
  | 4 => exact headL4 _ _ _ _ b
  | 5 => exact headL5 _ _ _ _ b
  | 6 => exact headL6 _ _ _ _ b
  | 7 => exact headL7 _ _ _ _ b
end Packed

end Cert.KernelIdeal.Talk

end
-- ==== Proof.KernelAt.lean ====
/- The kernel at an index: what a device reads in terms of the program's arguments, the merge of the landed blocks, and the
   result as the merge of the blocks of the four devices. -/
module
public import proofs.«01_k».proof.Proof.Launch
public import proofs.«01_k».proof.Proof.Blocks
public import Idealize.ShloMosaic.Lib.Pointwise
public import Idealize.ShloMosaic.Lib.StableHlo.ReadAt
public import Idealize.ShloMosaic.Lib.Pipeline.ValueKit
@[expose] public section
set_option maxRecDepth 16384
noncomputable section
namespace Cert.KernelIdeal.Talk
open Idealize.ShloMosaic Idealize.ShloMosaic.TcCoe
open Idealize.ShloMosaic.Pipeline
open Cert.KernelIdeal.Gen
variable (m : (ℓ : Loc nD τ sig) → Buf (Elt Ideal) ℓ) (c : Dev nD)

theorem at0_0 : win0_0.index t0_0 = ![0, 0, 0] := by decide +kernel
theorem at0_1 : win0_1.index t0_0 = ![0, 0, 0, 0] := by decide +kernel
theorem at0_2 : win0_2.index t0_0 = ![0, 0, 0, 0] := by decide +kernel
theorem at0_3 : win0_3.index t0_0 = ![0, 0] := by decide +kernel
theorem at0_4 : win0_4.index t0_0 = ![0, 0] := by decide +kernel
theorem ins_K : (ins m c).K = m ((c : Thread nD τ).loc main_arg1) := by
  show iblk m c 1 t0_0 = _
  funext j
  unfold iblk
  blk_simp
  rw [V_main_arg1]
  refine congrArg _ ?_
  blk_ext [at0_1]
theorem ins_V : (ins m c).V = m ((c : Thread nD τ).loc main_arg2) := by
  show iblk m c 2 t0_0 = _
  funext j
  unfold iblk
  blk_simp
  rw [V_main_arg2]
  refine congrArg _ ?_
  blk_ext [at0_2]
theorem ins_bt : (ins m c).bt = m ((c : Thread nD τ).loc main_arg3) := by
  show iblk m c 3 t0_0 = _
  funext j
  unfold iblk
  blk_simp
  rw [V_main_arg3]
  refine congrArg _ ?_
  blk_ext [at0_3]

theorem ins_q (b h : Fin 8) (e : Fin 64) : (ins m c).q (ix3 b h e) = m ((c : Thread nD τ).loc main_arg0) (ix4 b 0 h e) := by
  show iblk m c 0 t0_0 (ix3 b h e) = _
  unfold iblk
  blk_simp
  rw [show (win0_0.blk t0_0).view.emb (ix3 b h e) = ix3 b h e by blk_ext [at0_0]]
  unfold V V0
  simp only [hostOps0, List.flatten_cons, List.flatten_nil, List.append_nil]
  after_reads_at
theorem ins_ln (b : Fin 8) : (ins m c).ln (ix2 b 0) = m ((c : Thread nD τ).loc main_arg4) (ix1 b) := by
  show iblk m c 4 t0_0 (ix2 b 0) = _
  unfold iblk
  blk_simp
  rw [show (win0_4.blk t0_0).view.emb (ix2 b 0) = ix2 b 0 by blk_ext [at0_4]]
  unfold V V0
  simp only [hostOps0, List.flatten_cons, List.flatten_nil, List.append_nil]
  after_reads_at

theorem merge_at (x : FVec Ideal S4x64x66 .f32) (r e : Fin 64) : (merge x : FVec Ideal S64x64 .f32) (ix2 r e)
    = Ideal.div
        (∑ k : Fin 4, (x (ix3 k r ⟨e.val, by omega⟩) : EReal) * Ideal.exp (x (ix3 k r 64) - Finset.fold max (Ideal.ofBits FTy.f32 0xFF800000#32) (fun k : Fin 4 => x (ix3 k r 64)) Finset.univ))
        (∑ k : Fin 4, (x (ix3 k r 65) : EReal) * Ideal.exp (x (ix3 k r 64) - Finset.fold max (Ideal.ofBits FTy.f32 0xFF800000#32) (fun k : Fin 4 => x (ix3 k r 64)) Finset.univ)) := by
  unfold merge; unfold_payloads; pointwise []

theorem last_at (b h : Fin 8) (e : Fin 64) : W₃ m c (Proc.devRef .tc main_v6) (ix4 b 0 h e) = outAt m c (ix2 ⟨h.val * 8 + b.val, by omega⟩ e) := by
  unfold W₃ W₂
  simp only [hostOps1]
  after_reads_at
  exact congrFun (Function.update_self v3 (outAt m c) (W₁ m c)) _

section All
theorem packed_M (o : S1x64x64.Idx → Elt Ideal .f32) (mx l : S1x64x1.Idx → Elt Ideal .f32) (r : Fin 64) : packed o mx l r 64 = mx (ix3 0 r 0) := by
  unfold packed
  rw [dif_neg (by decide), if_pos (by decide)]
  rfl
theorem packed_L (o : S1x64x64.Idx → Elt Ideal .f32) (mx l : S1x64x1.Idx → Elt Ideal .f32) (r : Fin 64) : packed o mx l r 65 = l (ix3 0 r 0) := by
  unfold packed
  rw [dif_neg (by decide), if_neg (by decide)]
  rfl
variable (X : Dev nD → Ins Ideal) (k : Fin 4) (b h : Fin 8)
theorem all_O (e : Fin 64) : allOf X c (ix3 k ⟨h.val * 8 + b.val, by omega⟩ ⟨e.val, by omega⟩)
    = rowO (cnt (frm k c) (X (frm k c))) (msk (frm k c) (X (frm k c))) (X (frm k c)).q (X (frm k c)).K (X (frm k c)).V b h e :=
  (dif_pos (show e.val < 64 from e.isLt)).trans (blkO_at (frm k c) (X (frm k c)) h b e)
theorem all_M : allOf X c (ix3 k ⟨h.val * 8 + b.val, by omega⟩ 64)
    = rowM (msk (frm k c) (X (frm k c))) (X (frm k c)).q (X (frm k c)).K b h :=
  (packed_M (blkO (frm k c) (X (frm k c))) (blkM (frm k c) (X (frm k c))) (blkL (frm k c) (X (frm k c))) ⟨h.val * 8 + b.val, by omega⟩).trans (blkM_at (frm k c) (X (frm k c)) h b)
theorem all_L : allOf X c (ix3 k ⟨h.val * 8 + b.val, by omega⟩ 65)
    = rowL (cnt (frm k c) (X (frm k c))) (msk (frm k c) (X (frm k c))) (X (frm k c)).q (X (frm k c)).K b h :=
  (packed_L (blkO (frm k c) (X (frm k c))) (blkM (frm k c) (X (frm k c))) (blkL (frm k c) (X (frm k c))) ⟨h.val * 8 + b.val, by omega⟩).trans (blkL_at (frm k c) (X (frm k c)) h b)
end All
end Cert.KernelIdeal.Talk
end
-- ==== Proof.RefAt.lean ====
/- The reference at an index: softmax attention over the rows of the page table, each row read at the page it names. -/
module
public import proofs.«01_k».proof.Proof.Gen.ReferenceIdeal.Run
public import Idealize.ShloMosaic.Lib.Pointwise
@[expose] public section
set_option maxRecDepth 16384
noncomputable section
namespace Cert.ReferenceIdeal.Value
open Idealize.ShloMosaic Idealize.ShloMosaic.TcCoe
open Cert.ReferenceIdeal.Gen

theorem gather_at (x : FVec Ideal S256x16x8x64 .f32) (i : IVec S8x64x1 32) (b : Fin 8) (j : Fin 64) (u : Fin 16) (h : Fin 8) (e : Fin 64) :
   Host.gather gather_S256x16x8x64_S8x64x1_S8x64x16x8x64_234_0_n_n_0_2_116864 x i (ix5 b j u h e)
     = x (ix4 ⟨min (i (ix3 b j 0)).toInt.toNat 255, by omega⟩ u h e) := by
  unfold Host.gather
  refine congrArg x (funext fun a => Fin.ext ?_)
  match a with
  | ⟨0, _⟩ =>
    show min (i _).toInt.toNat 255 + 0 + 0 = min (i _).toInt.toNat 255
    simp only [Nat.add_zero]
    congr 4
    funext k
    match k with
    | ⟨0, _⟩ => rfl
    | ⟨1, _⟩ => rfl
    | ⟨2, _⟩ => rfl
  | ⟨1, _⟩ => exact Nat.zero_add _
  | ⟨2, _⟩ => exact Nat.zero_add _
  | ⟨3, _⟩ => exact Nat.zero_add _

/-- The word the reference looks a page up by. -/
def word (bt : IVec S8x64 32) (b : Fin 8) (j : Fin 64) : BitVec 32 :=
  Scalar.select (IntOp.cmpi .slt (bt (ix2 b j)) 0#32) (IntOp.addi (bt (ix2 b j)) 256#32) (bt (ix2 b j))
/-- The page it reads. -/
def page (bt : IVec S8x64 32) (b : Fin 8) (j : Fin 64) : Fin 256 := ⟨min (word bt b j).toInt.toNat 255, by omega⟩

theorem gather_page (x : FVec Ideal S256x16x8x64 .f32) (bt : IVec S8x64 32) (b : Fin 8) (j : Fin 64) (u : Fin 16) (h : Fin 8) (e : Fin 64) :
    Host.gather gather_S256x16x8x64_S8x64x1_S8x64x16x8x64_234_0_n_n_0_2_116864 x
        (broadcastInDim S8x64x1 ![0, 1] bcast_S8x64_S8x64x1_0_1 (select (cmpi .slt bt (broadcastInDim S8x64 ![] bcast_S_S8x64 (constantI S_ 32 0#32)))
          (addi bt (broadcastInDim S8x64 ![] bcast_S_S8x64 (constantI S_ 32 256#32))) bt)) (ix5 b j u h e)
      = x (ix4 (page bt b j) u h e) := by
  rw [gather_at]
  refine congrArg (fun p => x (ix4 p u h e)) (Fin.ext ?_)
  show min (BitVec.toInt _).toNat 255 = min (word bt b j).toInt.toNat 255
  refine congrArg (fun w : BitVec 32 => min w.toInt.toNat 255) ?_
  unfold word
  pointwise []

section
variable (q : FVec Ideal S8x1x8x64 .f32) (K V : FVec Ideal S256x16x8x64 .f32) (bt : IVec S8x64 32) (ln : IVec S8 32)

def refS (b h : Fin 8) (x : Fin 1024) : EReal :=
  Scalar.select (IntOp.cmpi .slt (BitVec.ofNat 32 (x.val / 16)) (ln (ix1 b)))
    ((∑ e : Fin 64, (q (ix4 b 0 h e) : EReal) * K (ix4 (page bt b ⟨x.val / 16, by omega⟩) ⟨x.val % 16, by omega⟩ h e)) * Ideal.ofBits FTy.f32 0x3E000000#32)
    (Ideal.ofBits FTy.f32 0xFF800000#32)

/-- The reference's result. -/
def refOut (b h : Fin 8) (e : Fin 64) : EReal :=
  ∑ x : Fin 1024, (V (ix4 (page bt b ⟨x.val / 16, by omega⟩) ⟨x.val % 16, by omega⟩ h e) : EReal)
    * Ideal.div
      (Ideal.exp (refS q K bt ln b h x - Finset.fold max (Ideal.ofBits FTy.f32 0xFF800000#32) (fun x => refS q K bt ln b h x) Finset.univ))
      (∑ x : Fin 1024, Ideal.exp (refS q K bt ln b h x - Finset.fold max (Ideal.ofBits FTy.f32 0xFF800000#32) (fun x => refS q K bt ln b h x) Finset.univ))
end

set_option maxHeartbeats 1600000 in
theorem ref_at (m : (ℓ : Loc nD τ sig) → Buf (Elt Ideal) ℓ) (c : Dev nD) (b h : Fin 8) (e : Fin 64) :
    @Eq EReal ((res_main_v35 m c : FVec Ideal S8x1x8x64 .f32) (ix4 b 0 h e))
      (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b h e) := by
  unfold res_main_v35
  generalize hi : (broadcastInDim S8x64x1 ![0, 1] bcast_S8x64_S8x64x1_0_1 (select (cmpi .slt (m ((c.tc : Thread nD τ).loc main_arg3)) (broadcastInDim S8x64 ![] bcast_S_S8x64 (constantI S_ 32 0#32))) (addi (m ((c.tc : Thread nD τ).loc main_arg3)) (broadcastInDim S8x64 ![] bcast_S_S8x64 (constantI S_ 32 256#32))) (m ((c.tc : Thread nD τ).loc main_arg3)))) = i
  have hw : ∀ j, i (ix3 b j 0) = word (m ((c.tc : Thread nD τ).loc main_arg3)) b j := by
    intro j
    rw [← hi]
    unfold word
    pointwise []
  clear hi
  generalize hn : (id (constant (F := Ideal) S_ .f32 0xFF800000#32)) = n
  have hn' : (n ix0 : EReal) = Ideal.ofBits FTy.f32 0xFF800000#32 := by rw [← hn]; rfl
  clear hn
  pointwise []
  simp only [gather_at, hw, hn']
  unfold refOut refS page
  rfl
end Cert.ReferenceIdeal.Value
end
-- ==== Proof.Pre.lean ====
/- The precondition `well_posed`: the side conditions its text states, and what it says of the arguments. -/
module

public import proofs.«01_k».proof.Pre_well_posed_KernelIdeal
public import proofs.«01_k».proof.Pre_well_posed_ReferenceIdeal
public import Idealize.ShloMosaic.Lib.Affine
public import Idealize.ShloMosaic.Lib.Decide
public import Idealize.ShloMosaic.Lib.ReduceAll
public import Idealize.ShloMosaic.Lib.Pointwise
public import Idealize.ShloMosaic.PureOps.Ideal.Laws

@[expose] public section

set_option maxRecDepth 16384

noncomputable section

namespace Cert.Proof

open Idealize.ShloMosaic

instance preK : Cert.Pre_well_posed_KernelIdeal.Facts where
  bcast_S8_S8x1_0 := by decide
  bcast_S8x1_S8x64_0_1 := by decide
  bcast_S_S8x64 := by decide
  reducesTo_S8x64_S_d0_1 := by decide
  h_S_ := by decide
  bcast_S_S8x1x8x64 := by decide
  reducesTo_S8x1x8x64_S_d0_1_2_3 := by decide
  bcast_S_S64x16x8x64 := by decide
  reducesTo_S64x16x8x64_S_d0_1_2_3 := by decide
  bcast_S_S8 := by decide
  reducesTo_S8_S_d0 := by decide

instance preR : Cert.Pre_well_posed_ReferenceIdeal.Facts where
  bcast_S8_S8x1_0 := by decide
  bcast_S8x1_S8x64_0_1 := by decide
  bcast_S_S8x64 := by decide
  reducesTo_S8x64_S_d0_1 := by decide
  h_S_ := by decide
  bcast_S_S8x1x8x64 := by decide
  reducesTo_S8x1x8x64_S_d0_1_2_3 := by decide
  bcast_S_S256x16x8x64 := by decide
  reducesTo_S256x16x8x64_S_d0_1_2_3 := by decide
  bcast_S_S8 := by decide
  reducesTo_S8_S_d0 := by decide

section Decode
open Cert.Pre_well_posed_KernelIdeal

instance one_index : Subsingleton S_.Idx := ⟨fun _ _ => funext fun a => a.elim0⟩

/-- An extended real whose absolute value is below the top is a real. -/
theorem real_of_abs (x : EReal) (h : Ideal.cmp .olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => exact ⟨r, rfl⟩

variable (q : FVec Ideal S8x1x8x64 .f32) (K V : FVec Ideal S64x16x8x64 .f32) (bt : IVec S8x64 32) (ln : IVec S8 32)

theorem decode (h : fn q K V bt ln = fun _ => 1#1) :
    (∀ i, ∃ r : ℝ, (q i : EReal) = (r : EReal)) ∧ (∀ i, ∃ r : ℝ, (K i : EReal) = (r : EReal))
      ∧ (∀ (b : Fin 8) (j : Fin 64), IntOp.cmpi .slt (BitVec.ofNat 32 j.val) (ln (ix1 b)) = 1#1 →
          0 ≤ (bt (ix2 b j)).toInt ∧ (bt (ix2 b j)).toInt < 256)
      ∧ (∀ b : Fin 8, 0 < (ln (ix1 b)).toInt) := by
  have e := congrFun h ix0
  dsimp only [fn, fn_part1] at e
  obtain ⟨e, e4⟩ := IntOp.andi_eq_one.mp e
  obtain ⟨e, e3⟩ := IntOp.andi_eq_one.mp e
  obtain ⟨e1, e2⟩ := IntOp.andi_eq_one.mp e
  have h1 := Host.reduce_andi_all _ _ _ _ _ e1
  have h2 := Host.reduce_andi_all _ _ _ _ _ e2
  have h3 := Host.reduce_andi_all _ _ _ _ _ e3
  have h4 := Host.reduce_andi_all _ _ _ _ _ e4
  refine ⟨fun i => real_of_abs _ (h1 i), fun i => real_of_abs _ (h2 i), fun b j hu => ?_, fun b => ?_⟩
  · have h := h3 (ix2 b j)
    rcases IntOp.ori_eq_one.mp h with h | h
    · have hn : ~~~ (IntOp.cmpi .slt (BitVec.ofNat 32 j.val) (ln (ix1 b))) = 1#1 := by
        pointwise [] at h
        exact h
      exact absurd hu (IntOp.not_eq_one.mp hn)
    · obtain ⟨ha, hb⟩ := IntOp.andi_eq_one.mp h
      exact ⟨IntOp.cmpi_sge.mp ha, IntOp.cmpi_slt.mp hb⟩
  · exact IntOp.cmpi_sgt.mp (h4 (ix1 b))

end Decode

end Cert.Proof

end
-- ==== Proof.Softmax.lean ====
/- The arithmetic of the merge over the extended reals: softmax weights gathered page by page on four devices, each with a
   shift of its own, are after the merge the softmax weights of one attention over the page table's rows. -/
module

public import Idealize.ShloMosaic.PureOps.Ideal
public import Mathlib.Data.Finset.Fold

@[expose] public section

noncomputable section

namespace Cert.Softmax

open Idealize.ShloMosaic

/-! ## Sums with real factors -/

theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_mul {ι : Type} (s : Finset ι) (f : ι → ℝ) (hf : ∀ i, 0 ≤ f i) (x : EReal) :
    ((∑ i ∈ s, f i : ℝ) : EReal) * x = ∑ i ∈ s, (f i : EReal) * x := by
  classical
  induction s using Finset.induction_on with
  | empty => simp
  | insert a s ha ih =>
    rw [Finset.sum_insert ha, Finset.sum_insert ha, EReal.coe_add, EReal.right_distrib_of_nonneg (by exact_mod_cast hf a)
      (by exact_mod_cast Finset.sum_nonneg fun i _ => hf i), ih]

/-- The greatest of finitely many values of which none is the top and one is not the bottom is a real. -/
theorem fold_real {n : ℕ} (f : Fin n → EReal) (ht : ∀ i, f i ≠ ⊤) (i : Fin n) (hb : f i ≠ ⊥) :
    ∃ r : ℝ, Finset.fold max ⊥ f Finset.univ = (r : EReal) := by
  have h1 : Finset.fold max ⊥ f Finset.univ < ⊤ :=
    (Finset.fold_max_lt _).mpr ⟨bot_lt_top, fun x _ => lt_top_iff_ne_top.mpr (ht x)⟩
  have h2 : ⊥ < Finset.fold max ⊥ f Finset.univ :=
    (Finset.lt_fold_max _).mpr (.inr ⟨i, Finset.mem_univ _, bot_lt_iff_ne_bot.mpr hb⟩)
  exact ⟨_, (EReal.coe_toReal h1.ne h2.ne').symm⟩

/-! ## Tokens, pages, rows of the page table -/

section Sums
variable {M : Type} [AddCommMonoid M]

theorem sum_tok (f : Fin 64 → Fin 16 → M) :
    ∑ t : Fin 1024, f ⟨t.val / 16, by omega⟩ ⟨t.val % 16, by omega⟩ = ∑ n, ∑ u, f n u := by
  rw [← Fintype.sum_prod_type']
  exact Fintype.sum_equiv (finProdFinEquiv (m := 64) (n := 16)).symm _ _ (fun t => rfl)

/-- The page `n` of device `z`. -/
def pg (z : Fin 4) (n : Fin 64) : Fin 256 := ⟨z.val * 64 + n.val, by omega⟩

theorem sum_page (f : Fin 256 → M) : ∑ z : Fin 4, ∑ n : Fin 64, f (pg z n) = ∑ p, f p := by
  rw [← Fintype.sum_prod_type']
  exact Fintype.sum_equiv (finProdFinEquiv (m := 4) (n := 64)) _ _
    (fun x => congrArg f (Fin.ext (show x.1.val * 64 + x.2.val = x.2.val + 64 * x.1.val by omega)))
end Sums

section Pages
variable (S : Fin 256 → Fin 16 → ℝ) (W : Fin 256 → Fin 16 → EReal) (P : Fin 64 → Fin 256) (used : Fin 64 → Prop) [DecidablePred used]

/-- Whether row `j` of the table is used and names page `p`, as a number. -/
def hit (j : Fin 64) (p : Fin 256) : ℝ := if used j ∧ P j = p then 1 else 0
/-- How many used rows name page `p`. -/
def hits (p : Fin 256) : ℝ := ∑ j, hit P used j p

theorem hit_nonneg (j : Fin 64) (p : Fin 256) : 0 ≤ hit P used j p := by unfold hit; split <;> norm_num
theorem hits_nonneg (p : Fin 256) : 0 ≤ hits P used p := Finset.sum_nonneg fun j _ => hit_nonneg P used j p

/-- A sum over all pages by their hits is the sum over the used rows. -/
theorem sum_hits (E : Fin 256 → Fin 16 → ℝ) (hE : ∀ p u, 0 ≤ E p u) :
    ∑ p, ∑ u, ((hits P used p * E p u : ℝ) : EReal) * W p u
      = ∑ j, ∑ u, ((if used j then E (P j) u else 0 : ℝ) : EReal) * W (P j) u := by
  have h1 : ∀ p u, ((hits P used p * E p u : ℝ) : EReal) * W p u = ∑ j, ((hit P used j p * E p u : ℝ) : EReal) * W p u := by
    intro p u
    rw [hits, Finset.sum_mul, coe_sum_mul _ _ (fun j => mul_nonneg (hit_nonneg P used j p) (hE p u))]
  have h2 : ∀ p, ∑ u, ∑ j, ((hit P used j p * E p u : ℝ) : EReal) * W p u = ∑ j, ∑ u, ((hit P used j p * E p u : ℝ) : EReal) * W p u :=
    fun p => Finset.sum_comm
  simp only [h1, h2]
  rw [Finset.sum_comm]
  refine Finset.sum_congr rfl fun j _ => ?_
  rw [Finset.sum_eq_single (P j)]
  · refine Finset.sum_congr rfl fun u _ => ?_
    unfold hit
    by_cases h : used j
    · rw [if_pos ⟨h, rfl⟩, if_pos h, one_mul]
    · rw [if_neg (fun h' => h h'.1), if_neg h, zero_mul]
  · intro p _ hp
    refine Finset.sum_eq_zero fun u _ => ?_
    unfold hit
    rw [if_neg (fun h' => hp h'.2.symm), zero_mul, EReal.coe_zero, zero_mul]
  · exact fun h => absurd (Finset.mem_univ _) h

/-- One device's share of a merged sum does not depend on the device's own shift. -/
theorem shift (c σ s : Fin 1024 → ℝ) (V : Fin 1024 → EReal) (m G : ℝ) (hs : ∀ t, c t ≠ 0 → s t = σ t) :
    (∑ t, ((c t : EReal) * Ideal.exp ((s t : EReal) - (m : EReal))) * V t) * Ideal.exp ((m : EReal) - (G : EReal))
      = ∑ t, ((c t * Real.exp (σ t - G) : ℝ) : EReal) * V t := by
  rw [← EReal.coe_sub, Ideal.exp_coe, sum_mul_real _ _ _ (Real.exp_pos _).le]
  refine Finset.sum_congr rfl fun t _ => ?_
  rw [← EReal.coe_sub, Ideal.exp_coe, mul_assoc, mul_comm (V t), ← mul_assoc, ← EReal.coe_mul, ← EReal.coe_mul]
  congr 2
  by_cases h : c t = 0
  · rw [h, zero_mul, zero_mul, zero_mul]
  · rw [hs t h, mul_assoc, ← Real.exp_add]
    congr 2
    ring

theorem merge_eq (frm : Fin 4 → Fin 4) (hfrm : Function.Bijective frm) (neg : ℝ) (j0 : Fin 64) (h0 : used j0)
    (c : Fin 4 → Fin 1024 → ℝ) (hc : ∀ z t, c z t = hits P used (pg z ⟨t.val / 16, by omega⟩))
    (s : Fin 4 → Fin 1024 → EReal)
    (hs : ∀ z t, s z t = if 0 < c z t then (S (pg z ⟨t.val / 16, by omega⟩) ⟨t.val % 16, by omega⟩ : EReal) else (neg : EReal))
    (V : Fin 4 → Fin 1024 → EReal) (hV : ∀ z t, V z t = W (pg z ⟨t.val / 16, by omega⟩) ⟨t.val % 16, by omega⟩)
    (M : Fin 4 → EReal) (hM : ∀ z, M z = Finset.fold max ⊥ (s z) Finset.univ)
    (G : EReal) (hG : G = Finset.fold max ⊥ (fun k => M (frm k)) Finset.univ)
    (r : Fin 1024 → EReal)
    (hr : ∀ x, r x = if used ⟨x.val / 16, by omega⟩ then (S (P ⟨x.val / 16, by omega⟩) ⟨x.val % 16, by omega⟩ : EReal) else ⊥)
    (R : Fin 1024 → EReal) (hR : ∀ x, R x = W (P ⟨x.val / 16, by omega⟩) ⟨x.val % 16, by omega⟩) :
    Ideal.div
        (∑ k, (∑ t, ((c (frm k) t : EReal) * Ideal.exp (s (frm k) t - M (frm k))) * V (frm k) t) * Ideal.exp (M (frm k) - G))
        (∑ k, (∑ t, (c (frm k) t : EReal) * Ideal.exp (s (frm k) t - M (frm k))) * Ideal.exp (M (frm k) - G))
      = ∑ x, R x * Ideal.div (Ideal.exp (r x - Finset.fold max ⊥ r Finset.univ))
          (∑ y, Ideal.exp (r y - Finset.fold max ⊥ r Finset.univ)) := by
  -- the shifts are reals
  have hsr : ∀ z t, ∃ a : ℝ, s z t = (a : EReal) := fun z t => by
    rw [hs]; split
    · exact ⟨_, rfl⟩
    · exact ⟨_, rfl⟩
  choose s' hs' using hsr
  have hMr : ∀ z, ∃ a : ℝ, M z = (a : EReal) := fun z => by
    rw [hM]
    exact fold_real _ (fun t => by rw [hs']; exact EReal.coe_ne_top _) 0 (by rw [hs']; exact EReal.coe_ne_bot _)
  choose M' hM' using hMr
  obtain ⟨G', hG'⟩ : ∃ a : ℝ, G = (a : EReal) := by
    rw [hG]
    exact fold_real _ (fun k => by rw [hM']; exact EReal.coe_ne_top _) 0 (by rw [hM']; exact EReal.coe_ne_bot _)
  obtain ⟨T, hT⟩ : ∃ a : ℝ, Finset.fold max ⊥ r Finset.univ = (a : EReal) := by
    refine fold_real _ (fun x => ?_) ⟨j0.val * 16, by omega⟩ ?_
    · rw [hr]; split
      · exact EReal.coe_ne_top _
      · exact bot_ne_top
    · rw [hr, if_pos]
      · exact EReal.coe_ne_bot _
      · have : (⟨j0.val * 16 / 16, by omega⟩ : Fin 64) = j0 := Fin.ext (by show j0.val * 16 / 16 = j0.val; omega)
        rw [this]; exact h0
  rw [hT]
  have hcs : ∀ z t, c z t ≠ 0 → s' z t = S (pg z ⟨t.val / 16, by omega⟩) ⟨t.val % 16, by omega⟩ := by
    intro z t h
    have hp : 0 < c z t := lt_of_le_of_ne (by rw [hc]; exact hits_nonneg P used _) (Ne.symm h)
    have := hs z t
    rw [hs', if_pos hp] at this
    exact_mod_cast this
  -- a sum over the devices, whatever their order, is the sum over the used rows
  have key : ∀ X : Fin 256 → Fin 16 → EReal,
      (∑ k, (∑ t : Fin 1024, ((c (frm k) t : EReal) * Ideal.exp (s (frm k) t - M (frm k)))
          * X (pg (frm k) ⟨t.val / 16, by omega⟩) ⟨t.val % 16, by omega⟩) * Ideal.exp (M (frm k) - G))
        = ∑ j, ∑ u, ((if used j then Real.exp (S (P j) u - G') else 0 : ℝ) : EReal) * X (P j) u := by
    intro X
    have hk : ∀ z, (∑ t : Fin 1024, ((c z t : EReal) * Ideal.exp (s z t - M z)) * X (pg z ⟨t.val / 16, by omega⟩) ⟨t.val % 16, by omega⟩)
          * Ideal.exp (M z - G)
        = ∑ n, ∑ u, ((hits P used (pg z n) * Real.exp (S (pg z n) u - G') : ℝ) : EReal) * X (pg z n) u := by
      intro z
      have h := shift (c z) (fun t => S (pg z ⟨t.val / 16, by omega⟩) ⟨t.val % 16, by omega⟩) (s' z)
        (fun t => X (pg z ⟨t.val / 16, by omega⟩) ⟨t.val % 16, by omega⟩) (M' z) G' (hcs z)
      simp only [hs', hM', hG']
      refine h.trans ?_
      simp only [hc]
      exact sum_tok (fun n u => ((hits P used (pg z n) * Real.exp (S (pg z n) u - G') : ℝ) : EReal) * X (pg z n) u)
    simp only [hk]
    rw [Fintype.sum_bijective frm hfrm _ (fun z => ∑ n, ∑ u, ((hits P used (pg z n) * Real.exp (S (pg z n) u - G') : ℝ) : EReal) * X (pg z n) u) (fun _ => rfl)]
    rw [sum_page (fun p => ∑ u, ((hits P used p * Real.exp (S p u - G') : ℝ) : EReal) * X p u)]
    exact sum_hits X P used (fun p u => Real.exp (S p u - G')) (fun p u => (Real.exp_pos _).le)
  have hnum := key W
  have hden := key (fun _ _ => 1)
  simp only [mul_one] at hden
  simp only [hV]
  rw [hnum, hden]
  -- the two sums of weights
  have hA : ∀ x : Fin 1024, Ideal.exp (r x - (T : EReal))
      = ((if used ⟨x.val / 16, by omega⟩ then Real.exp (S (P ⟨x.val / 16, by omega⟩) ⟨x.val % 16, by omega⟩ - T) else 0 : ℝ) : EReal) := by
    intro x
    rw [hr]
    split
    · rw [← EReal.coe_sub, Ideal.exp_coe]
    · rw [EReal.bot_sub, Ideal.exp_bot, EReal.coe_zero]
  have hL : (∑ y, Ideal.exp (r y - (T : EReal))) = ((∑ j, ∑ u, (if used j then Real.exp (S (P j) u - T) else 0) : ℝ) : EReal) := by
    simp only [hA]
    rw [← coe_sum_real]
    exact congrArg _ (sum_tok (fun j u => if used j then Real.exp (S (P j) u - T) else 0))
  have hpos : ∀ Z : ℝ, 0 < ∑ j, ∑ u, (if used j then Real.exp (S (P j) u - Z) else 0) := by
    intro Z
    have hn : ∀ j u, 0 ≤ (if used j then Real.exp (S (P j) u - Z) else 0) := by
      intro j u; split
      · exact (Real.exp_pos _).le
      · exact le_rfl
    refine Finset.sum_pos' (fun j _ => Finset.sum_nonneg fun u _ => hn j u) ⟨j0, Finset.mem_univ _, ?_⟩
    refine Finset.sum_pos' (fun u _ => hn j0 u) ⟨0, Finset.mem_univ _, ?_⟩
    rw [if_pos h0]; exact Real.exp_pos _
  have hscale : ∀ j u, (if used j then Real.exp (S (P j) u - G') else 0) = (if used j then Real.exp (S (P j) u - T) else 0) * Real.exp (T - G') := by
    intro j u; split
    · rw [← Real.exp_add]; congr 1; ring
    · rw [zero_mul]
  have hGT : (∑ j, ∑ u, (if used j then Real.exp (S (P j) u - G') else 0)) = (∑ j, ∑ u, (if used j then Real.exp (S (P j) u - T) else 0)) * Real.exp (T - G') := by
    simp only [hscale, Finset.sum_mul]
  have hdenr : (∑ j, ∑ u, ((if used j then Real.exp (S (P j) u - G') else 0 : ℝ) : EReal)) = ((∑ j, ∑ u, (if used j then Real.exp (S (P j) u - G') else 0) : ℝ) : EReal) := by
    simp only [coe_sum_real]
  rw [hdenr, Ideal.div_coe (hpos G').ne', hL]
  simp only [hA, Ideal.div_coe (hpos T).ne', hR]
  rw [sum_tok (fun j u => W (P j) u * (((if used j then Real.exp (S (P j) u - T) else 0 : ℝ) : EReal) * ((1 / (∑ j, ∑ u, (if used j then Real.exp (S (P j) u - T) else 0)) : ℝ) : EReal)))]
  have hinv : 0 ≤ 1 / (∑ j, ∑ u, (if used j then Real.exp (S (P j) u - G') else 0)) := (one_div_pos.mpr (hpos G')).le
  rw [sum_mul_real _ _ _ hinv]
  refine Finset.sum_congr rfl fun j _ => ?_
  rw [sum_mul_real _ _ _ hinv]
  refine Finset.sum_congr rfl fun u _ => ?_
  rw [mul_comm _ (W (P j) u), mul_assoc, ← EReal.coe_mul, ← EReal.coe_mul, hscale, hGT]
  congr 2
  have e1 := (hpos T).ne'
  have e2 := (Real.exp_pos (T - G')).ne'
  field_simp

end Pages

end Cert.Softmax
-- ==== Proof.Tokens.lean ====
/- The words of the page table and of the lengths as numbers: which page a used row names, how often a device's page is
   named, and the score of a token as a real. -/
module

public import proofs.«01_k».proof.Proof.KernelAt
public import proofs.«01_k».proof.Proof.RefAt
public import proofs.«01_k».proof.Proof.Pre
public import proofs.«01_k».proof.Proof.Softmax
public import Idealize.ShloMosaic.Lib.StableHlo.Predicate

@[expose] public section

set_option maxRecDepth 16384

noncomputable section

namespace Cert.Proof

open Idealize.ShloMosaic
open Cert.KernelIdeal.Talk (Ins cnt msk w2)
open Cert.KernelIdeal (S8x64 S8)
open Cert.Softmax (hit hits pg)

/-! ## The constants -/

theorem eighth : Ideal.ofBits FTy.f32 0x3E000000#32 = ((1 / 8 : ℝ) : EReal) := by
  simp [Ideal.ofBits, Ideal.ieee, -EReal.coe_mul]; norm_num
theorem bottom : Ideal.ofBits FTy.f32 0xFF800000#32 = ⊥ := by
  simp [Ideal.ofBits, Ideal.ieee]
theorem zero_word : Ideal.ofBits FTy.f32 0x00000000#32 = 0 := by
  simp [Ideal.ofBits, Ideal.ieee]
theorem low_real : ∃ r : ℝ, Ideal.ofBits FTy.f32 0xF149F2CA#32 = (r : EReal) := by
  simp only [Ideal.ofBits, Ideal.ieee]
  exact ⟨_, rfl⟩

/-! ## Rows -/

section Rows
variable (bt : IVec S8x64 32) (ln : IVec S8 32) (b : Fin 8)

/-- Whether row `j` of the page table is below the sequence's number of pages. -/
def used (j : Fin 64) : Prop := IntOp.cmpi .slt (BitVec.ofNat 32 j.val) (ln (ix1 b)) = 1#1
instance : DecidablePred (used ln b) := fun _ => inferInstanceAs (Decidable (_ = _))

/-- The page row `j` names. -/
abbrev named (j : Fin 64) : Fin 256 := Cert.ReferenceIdeal.Value.page bt b j

theorem named_word (j : Fin 64) (h0 : 0 ≤ (bt (ix2 b j)).toInt) (h1 : (bt (ix2 b j)).toInt < 256) :
    bt (ix2 b j) = BitVec.ofNat 32 (named bt b j).val := by
  have hw : Cert.ReferenceIdeal.Value.word bt b j = bt (ix2 b j) := by
    unfold Cert.ReferenceIdeal.Value.word Scalar.select
    refine if_neg fun h => ?_
    have := IntOp.cmpi_slt.mp h
    have : (0#32).toInt = 0 := by decide
    omega
  show _ = BitVec.ofNat 32 (min (Cert.ReferenceIdeal.Value.word bt b j).toInt.toNat 255)
  rw [hw]
  generalize bt (ix2 b j) = x at *
  apply BitVec.eq_of_toNat_eq
  rw [BitVec.toNat_ofNat]
  rw [BitVec.toInt_eq_toNat_cond] at *
  have := x.isLt
  split_ifs at * <;> omega

theorem word_page (d : Fin 4) (n : Fin 64) : IntOp.addi (Scalar.muli (w2 d) 64#32) (BitVec.ofNat 32 n.val) = BitVec.ofNat 32 (pg d n).val := by
  have : w2 d = BitVec.ofNat 32 d.val := by revert d; decide
  rw [this]
  show BitVec.ofNat 32 d.val * 64#32 + BitVec.ofNat 32 n.val = BitVec.ofNat 32 (d.val * 64 + n.val)
  apply BitVec.eq_of_toNat_eq
  simp

/-- One row's share of a count. -/
theorem term_at (d : Fin 4) (n j : Fin 64) (L : BitVec 32) (hL : L = ln (ix1 b))
    (hb : used ln b j → 0 ≤ (bt (ix2 b j)).toInt ∧ (bt (ix2 b j)).toInt < 256) :
    (((BitVec.setWidth 32 (IntOp.andi (IntOp.cmpi .eq (bt (ix2 b j)) (IntOp.addi (Scalar.muli (w2 d) 64#32) (BitVec.ofNat 32 n.val)))
        (IntOp.cmpi .slt (BitVec.ofNat 32 j.val) L))).toInt : ℝ)) = hit (named bt b) (used ln b) j (pg d n) := by
  subst hL
  rw [word_page]
  unfold hit
  have h01 : ∀ x : BitVec 1, ((BitVec.setWidth 32 x).toInt : ℝ) = if x = 1#1 then 1 else 0 := by
    intro x
    have : x = 0#1 ∨ x = 1#1 := by revert x; decide
    rcases this with rfl | rfl <;> simp
  rw [h01]
  refine if_congr ?_ rfl rfl
  rw [IntOp.andi_eq_one, Idealize.ShloMosaic.StableHlo.Predicate.cmpi_eq_iff, and_comm]
  refine and_congr_right fun hu => ?_
  obtain ⟨h0, h1⟩ := hb hu
  rw [named_word bt b j h0 h1]
  constructor
  · intro h
    have := congrArg BitVec.toNat h
    simp only [BitVec.toNat_ofNat] at this
    refine Fin.ext ?_
    omega
  · intro h
    rw [h]
end Rows

section Count
variable (d : Fin 4) (x : Ins Ideal) (ln : IVec S8 32) (b : Fin 8) (t : Fin 1024)
  (hl : x.ln (ix2 b 0) = ln (ix1 b))
  (hb : ∀ j, used ln b j → 0 ≤ ((x.bt : IVec S8x64 32) (ix2 b j)).toInt ∧ ((x.bt : IVec S8x64 32) (ix2 b j)).toInt < 256)
include hl hb

theorem cnt_at : @Eq EReal (cnt d x (ix2 b t)) ((hits (named x.bt b) (used ln b) (pg d ⟨t.val / 16, by omega⟩) : ℝ) : EReal) := by
  have h : @Eq EReal (cnt d x (ix2 b t)) (∑ j : Fin 64, ((BitVec.setWidth 32 (IntOp.andi (IntOp.cmpi .eq ((x.bt : IVec S8x64 32) (ix2 b j)) (IntOp.addi (Scalar.muli (w2 d) 64#32) (BitVec.ofNat 32 (t.val / 16))))
        (IntOp.cmpi .slt (BitVec.ofNat 32 j.val) (x.ln (ix2 b 0))))).toInt : ℝ)) := by
    unfold cnt
    unfold_payloads
    pointwise []
    rfl
  rw [h]
  unfold hits
  rw [Cert.Softmax.coe_sum_real]
  exact Finset.sum_congr rfl fun j _ => congrArg _ (term_at x.bt ln b d ⟨t.val / 16, by omega⟩ j _ hl (hb j))

theorem msk_at : msk d x (ix2 b t) = 1#1 ↔ 0 < hits (named x.bt b) (used ln b) (pg d ⟨t.val / 16, by omega⟩) := by
  have h : msk d x (ix2 b t) = Ideal.cmp .ogt (cnt d x (ix2 b t)) (Ideal.ofBits FTy.f32 0x00000000#32) := rfl
  rw [h, cnt_at d x ln b t hl hb, zero_word]
  simp [Ideal.cmp, Idealize.ShloMosaic.StableHlo.Predicate.ofBool_eq_one_iff]
end Count

end Cert.Proof

end
-- ==== Proof.Same.lean ====
/- The kernel and the reference compute the same result: the merge of the four devices' blocks is the attention over the
   rows of the page table, index by index. -/
module

public import proofs.«01_k».proof.Proof.Tokens

@[expose] public section

set_option maxRecDepth 16384

noncomputable section

namespace Cert.Proof

open Idealize.ShloMosaic
open Cert.KernelIdeal.Talk
open Cert.KernelIdeal (S8x64 S8 S8x1x8x64 nD)
open Cert.ReferenceIdeal (S256x16x8x64)
open Cert.ReferenceIdeal.Value (refOut refS page)
open Cert.Softmax (hits pg merge_eq coe_sum_real)

section
variable (X : Dev nD → Ins Ideal) (q : FVec Ideal S8x1x8x64 .f32) (K V : FVec Ideal S256x16x8x64 .f32) (bt : IVec S8x64 32) (ln : IVec S8 32)
  (hq : ∀ d b h e, (X d).q (ix3 b h e) = q (ix4 b 0 h e))
  (hK : ∀ (d : Fin 4) n u h e, (X d).K (ix4 n u h e) = K (ix4 (pg d n) u h e))
  (hV : ∀ (d : Fin 4) n u h e, (X d).V (ix4 n u h e) = V (ix4 (pg d n) u h e))
  (hbt : ∀ d, (X d).bt = bt) (hl : ∀ d b, (X d).ln (ix2 b 0) = ln (ix1 b))
  (q' : S8x1x8x64.Idx → ℝ) (hq' : ∀ i, (q i : EReal) = (q' i : EReal))
  (K' : S256x16x8x64.Idx → ℝ) (hK' : ∀ i, (K i : EReal) = (K' i : EReal))

/-- A score as a real: query `(b, h)` against the token at place `u` of page `p`. -/
def score (b h : Fin 8) (p : Fin 256) (u : Fin 16) : ℝ := (∑ e : Fin 64, q' (ix4 b 0 h e) * K' (ix4 p u h e)) * (1 / 8)

include hq' hK' in
theorem score_eq (b h : Fin 8) (p : Fin 256) (u : Fin 16) :
    (∑ e : Fin 64, (q (ix4 b 0 h e) : EReal) * K (ix4 p u h e)) * Ideal.ofBits FTy.f32 0x3E000000#32 = (score q' K' b h p u : EReal) := by
  unfold score
  rw [eighth, EReal.coe_mul, coe_sum_real]
  refine congrArg (· * _) (Finset.sum_congr rfl fun e _ => ?_)
  rw [hq', hK', EReal.coe_mul]

include hq hK hV hbt hl hq' hK' in
theorem same (c : Dev nD) (b h : Fin 8) (e : Fin 64) (hp : 0 < (ln (ix1 b)).toInt)
    (hb : ∀ j, used ln b j → 0 ≤ (bt (ix2 b j)).toInt ∧ (bt (ix2 b j)).toInt < 256) :
    @Eq EReal ((merge (allOf X c) : FVec Ideal Cert.KernelIdeal.S64x64 .f32) (ix2 ⟨h.val * 8 + b.val, by omega⟩ e)) (refOut q K V bt ln b h e) := by
  obtain ⟨neg, hneg⟩ := low_real
  have h0 : used ln b 0 := by
    refine IntOp.cmpi_slt.mpr ?_
    have : (BitVec.ofNat 32 (0 : Fin 64).val).toInt = 0 := by decide
    omega
  have key := merge_eq (score q' K' b h) (fun p u => V (ix4 p u h e)) (named bt b) (used ln b) (fun k => frm k c)
    (by revert c; decide) neg 0 h0
    (fun z t => hits (named bt b) (used ln b) (pg z ⟨t.val / 16, by omega⟩)) (fun _ _ => rfl)
    (fun z t => tokS (msk z (X z)) (X z).q (X z).K b h t)
    (by
      intro z t
      unfold tokS Scalar.select
      refine if_congr ?_ ?_ hneg
      · have := msk_at z (X z) ln b t (hl z b) (by rw [hbt]; exact hb)
        rw [hbt] at this
        exact this
      · rw [← score_eq q K q' hq' K' hK']
        refine congrArg (· * _) (Finset.sum_congr rfl fun e _ => ?_)
        exact congrArg₂ (· * ·) (hq z b h e) (hK z _ _ h e))
    (fun z t => (X z).V (ix4 ⟨t.val / 16, by omega⟩ ⟨t.val % 16, by omega⟩ h e)) (fun z t => hV z _ _ h e)
    (fun z => rowM (msk z (X z)) (X z).q (X z).K b h)
    (by intro z; unfold rowM; rw [bottom])
    _ rfl
    (fun x => refS q K bt ln b h x)
    (by
      intro x
      unfold refS Scalar.select
      exact if_congr Iff.rfl (score_eq q K q' hq' K' hK' b h _ _) bottom)
    (fun x => V (ix4 (page bt b ⟨x.val / 16, by omega⟩) ⟨x.val % 16, by omega⟩ h e)) (fun _ => rfl)
  have hc : ∀ (k : Fin 4) t, @Eq EReal (cnt (frm k c) (X (frm k c)) (ix2 b t)) ((hits (named bt b) (used ln b) (pg (frm k c) ⟨t.val / 16, by omega⟩) : ℝ) : EReal) := by
    intro k t
    have := cnt_at (frm k c) (X (frm k c)) ln b t (hl _ b) (by rw [hbt]; exact hb)
    rw [hbt] at this
    exact this
  have hO := fun k => all_O c X k b h e
  have hM := fun k => all_M c X k b h
  have hL := fun k => all_L c X k b h
  refine (merge_at (allOf X c) _ e).trans (Eq.trans ?_ (key.trans ?_))
  · simp only [hO, hM, hL, bottom]
    unfold rowO rowL tokP
    simp only [hc]
  · unfold refOut
    rw [bottom]
end

end Cert.Proof

end
-- ==== Proof.Algebraic.lean ====
/- The value claim: from memories that agree as the claim's sharding says, kernel and reference end with one result. -/
module

public import proofs.«01_k».proof.Defs
public import proofs.«01_k».proof.Proof.Frames
public import proofs.«01_k».proof.Proof.Same
public import Idealize.ShloMosaic.Lib.LayoutAt

@[expose] public section

set_option maxRecDepth 16384

noncomputable section

namespace Cert.Proof

open Idealize.ShloMosaic Idealize.SL.Sem
open Cert.KernelIdeal.Talk
open Cert.Softmax (pg)

/-- A device's block of the pages, read at an index. -/
theorem block_at (d : Fin 4) (v : (⟨4, ![256, 16, 8, 64]⟩ : Shape).Idx → EReal) (n : Fin 64) (u : Fin 16) (h : Fin 8) (e : Fin 64) :
    (Layout.block ⟨4, ![64, 16, 8, 64]⟩ ⟨4, ![256, 16, 8, 64]⟩ 0 4 d v) (ix4 n u h e) = v (ix4 (pg d n) u h e) := by
  unfold pg
  shard_ext

theorem algebraic : Cert.algebraic_KernelIdeal_ReferenceIdeal_pre_well_posed_KernelIdeal
    (hKernelIdeal := Cert.KernelIdeal.Gen.facts) (hReferenceIdeal := Cert.ReferenceIdeal.Gen.facts) (hPre_well_posed_KernelIdeal := preK) := by
  intro m g m' g' hpre hag
  have hv : ∀ c : Dev Cert.KernelIdeal.nD, (W₃ m c (Proc.devRef .tc Cert.KernelIdeal.main_v6) : FVec Ideal Cert.KernelIdeal.S8x1x8x64 .f32)
      = Cert.ReferenceIdeal.Value.res_main_v35 m' 0 := by
    intro c
    obtain ⟨fq, -, fb, fl⟩ := decode _ _ _ _ _ (hpre 0)
    have fK' : ∀ i, ∃ r : ℝ, (m' (((0 : Dev Cert.ReferenceIdeal.nD).tc : Thread Cert.ReferenceIdeal.nD Cert.ReferenceIdeal.τ).loc Cert.ReferenceIdeal.main_arg1) i : EReal) = (r : EReal) := by
      intro i
      obtain ⟨p, u, h, e, rfl⟩ : ∃ p u h e, i = ix4 p u h e := ⟨_, _, _, _, eq_ix4 i⟩
      obtain ⟨d, n, rfl⟩ : ∃ d n, p = pg d n := ⟨⟨p.val / 64, by omega⟩, ⟨p.val % 64, by omega⟩, Fin.ext (show p.val = p.val / 64 * 64 + p.val % 64 by omega)⟩
      obtain ⟨r, hr⟩ := (decode _ _ _ _ _ (hpre d)).2.1 (ix4 n u h e)
      exact ⟨r, ((congrFun (hag d).2.1 _).trans (block_at d _ n u h e)).symm.trans hr⟩
    rw [(hag 0).1] at fq
    rw [(hag 0).2.2.2.1, (hag 0).2.2.2.2] at fb
    rw [(hag 0).2.2.2.2] at fl
    choose q' hq' using fq
    choose K' hK' using fK'
    funext i
    obtain ⟨b, z, h, e, rfl⟩ : ∃ b z h e, i = ix4 b z h e := ⟨_, _, _, _, eq_ix4 i⟩
    obtain rfl : z = 0 := Subsingleton.elim _ _
    refine (last_at m c b h e).trans (Eq.trans ?_ (Cert.ReferenceIdeal.Value.ref_at m' 0 b h e).symm)
    refine same (ins m) _ _ _ _ _ (fun d b h e => ?_) (fun d n u h e => ?_) (fun d n u h e => ?_) (fun d => ?_) (fun d b => ?_) q' hq' K' hK' c b h e (fl b) (fb b)
    · exact (ins_q m d b h e).trans (congrFun (hag d).1 _)
    · rw [ins_K]
      exact (congrFun (hag d).2.1 _).trans (block_at d _ n u h e)
    · rw [ins_V]
      exact (congrFun (hag d).2.2.1 _).trans (block_at d _ n u h e)
    · exact (ins_bt m d).trans (hag d).2.2.2.1
    · exact (ins_ln m d b).trans (congrFun (hag d).2.2.2.2 _)
  exact ⟨Cert.ReferenceIdeal.Value.res_main_v35 m' 0,
    (θ_run Cert.KernelIdeal.defs _ _).mono (fun _ h c => ⟨((h.1 c).2).trans (hv c), (h.1 c).1⟩) (run_main m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run

public import proofs.«01_k».proof.Proof.Frames
public import proofs.«01_k».proof.Proof.Algebraic

public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preK, preR,
    frame_kernel, frame_kernelIdeal, fun m ρ _ => frame_kernelIdeal m ρ True.intro,
    frame_referenceIdeal, fun m ρ _ => frame_referenceIdeal m ρ True.intro, trivial, algebraic⟩

end Cert.Proof

end
